-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v128)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v128) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x2880 : Shape := ⟨2, ![2048, 2880]⟩
abbrev S2880x64x64 : Shape := ⟨3, ![2880, 64, 64]⟩
abbrev S64x64 : Shape := ⟨2, ![64, 64]⟩
abbrev S2880x8x64 : Shape := ⟨3, ![2880, 8, 64]⟩
abbrev S8x64 : Shape := ⟨2, ![8, 64]⟩
abbrev S64x64x2880 : Shape := ⟨3, ![64, 64, 2880]⟩
abbrev S2880 : Shape := ⟨1, ![2880]⟩
abbrev S64 : Shape := ⟨1, ![64]⟩
abbrev S2048 : Shape := ⟨1, ![2048]⟩
abbrev S2880x4096 : Shape := ⟨2, ![2880, 4096]⟩
abbrev S_ : Shape := ⟨0, ![]⟩
abbrev S2880x512 : Shape := ⟨2, ![2880, 512]⟩
abbrev S2880x5120 : Shape := ⟨2, ![2880, 5120]⟩
abbrev S4096 : Shape := ⟨1, ![4096]⟩
abbrev S512 : Shape := ⟨1, ![512]⟩
abbrev S5120 : Shape := ⟨1, ![5120]⟩
abbrev S1x5120 : Shape := ⟨2, ![1, 5120]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S1x2048x1x64 : Shape := ⟨4, ![1, 2048, 1, 64]⟩
abbrev S1x2048x8x64 : Shape := ⟨4, ![1, 2048, 8, 64]⟩
abbrev S2048x512 : Shape := ⟨2, ![2048, 512]⟩
abbrev S512x1 : Shape := ⟨2, ![512, 1]⟩
abbrev S1x512 : Shape := ⟨2, ![1, 512]⟩
abbrev S512x512 : Shape := ⟨2, ![512, 512]⟩
abbrev S2048x5120 : Shape := ⟨2, ![2048, 5120]⟩
abbrev S2048x80x1x64 : Shape := ⟨4, ![2048, 80, 1, 64]⟩
abbrev S256 : Shape := ⟨1, ![256]⟩
abbrev S256x1 : Shape := ⟨2, ![256, 1]⟩
abbrev S128 : Shape := ⟨1, ![128]⟩
abbrev S1x128 : Shape := ⟨2, ![1, 128]⟩
abbrev S256x128 : Shape := ⟨2, ![256, 128]⟩
abbrev S1x256x1x128 : Shape := ⟨4, ![1, 256, 1, 128]⟩
abbrev S1x256x8x128 : Shape := ⟨4, ![1, 256, 8, 128]⟩
abbrev S256x1024 : Shape := ⟨2, ![256, 1024]⟩
abbrev S1x256x1024 : Shape := ⟨3, ![1, 256, 1024]⟩
abbrev S2x256x1024 : Shape := ⟨3, ![2, 256, 1024]⟩
abbrev S8x8 : Shape := ⟨2, ![8, 8]⟩
abbrev S8x8x128 : Shape := ⟨3, ![8, 8, 128]⟩
abbrev S8x1024 : Shape := ⟨2, ![8, 1024]⟩
abbrev S8x1x1024 : Shape := ⟨3, ![8, 1, 1024]⟩
abbrev S4096x2880 : Shape := ⟨2, ![4096, 2880]⟩
abbrev S1x2880 : Shape := ⟨2, ![1, 2880]⟩
abbrev S512x8x1x64 : Shape := ⟨4, ![512, 8, 1, 64]⟩
abbrev S512x1x1x64 : Shape := ⟨4, ![512, 1, 1, 64]⟩
abbrev S1x1x1024 : Shape := ⟨3, ![1, 1, 1024]⟩
abbrev S512x2880 : Shape := ⟨2, ![512, 2880]⟩
abbrev S512x64 : Shape := ⟨2, ![512, 64]⟩
abbrev S64x512 : Shape := ⟨2, ![64, 512]⟩
abbrev S128x512 : Shape := ⟨2, ![128, 512]⟩
abbrev S512x8x64 : Shape := ⟨3, ![512, 8, 64]⟩
abbrev S1024 : Shape := ⟨1, ![1024]⟩
abbrev S256x64 : Shape := ⟨2, ![256, 64]⟩
abbrev S64x128 : Shape := ⟨2, ![64, 128]⟩
abbrev S64x1024 : Shape := ⟨2, ![64, 1024]⟩
abbrev S1x1024 : Shape := ⟨2, ![1, 1024]⟩
abbrev S128x256 : Shape := ⟨2, ![128, 256]⟩
abbrev S128x1024 : Shape := ⟨2, ![128, 1024]⟩

abbrev nBuf : Space → Nat
  | .hbm => 252
  | .vmem => 24
  | .smem => 0
  | _ => 0

abbrev hbmTy0_0 (i : Nat) : BufTy := match i % 128 with
  | 0 => ⟨S2048x2880, .f32⟩
  | 1 => ⟨S2880x64x64, .f32⟩
  | 2 => ⟨S64x64, .f32⟩
  | 3 => ⟨S2880x8x64, .f32⟩
  | 4 => ⟨S8x64, .f32⟩
  | 5 => ⟨S2880x8x64, .f32⟩
  | 6 => ⟨S8x64, .f32⟩
  | 7 => ⟨S64x64x2880, .f32⟩
  | 8 => ⟨S2880, .f32⟩
  | 9 => ⟨S64, .f32⟩
  | 10 => ⟨S2048, .i32⟩
  | 11 => ⟨S2880x4096, .f32⟩
  | 12 => ⟨S_, .f32⟩
  | 13 => ⟨S2880x4096, .f32⟩
  | 14 => ⟨S2880x4096, .f32⟩
  | 15 => ⟨S2880x4096, .bf16⟩
  | 16 => ⟨S2880x512, .f32⟩
  | 17 => ⟨S2880x512, .bf16⟩
  | 18 => ⟨S2880x512, .f32⟩
  | 19 => ⟨S2880x512, .bf16⟩
  | 20 => ⟨S2880x5120, .bf16⟩
  | 21 => ⟨S4096, .f32⟩
  | 22 => ⟨S_, .f32⟩
  | 23 => ⟨S4096, .f32⟩
  | 24 => ⟨S4096, .f32⟩
  | 25 => ⟨S512, .f32⟩
  | 26 => ⟨S512, .f32⟩
  | 27 => ⟨S5120, .f32⟩
  | 28 => ⟨S1x5120, .f32⟩
  | 29 => ⟨S32, .f32⟩
  | 30 => ⟨S_, .f32⟩
  | 31 => ⟨S32, .f32⟩
  | 32 => ⟨S32, .f32⟩
  | 33 => ⟨S_, .f32⟩
  | 34 => ⟨S32, .f32⟩
  | 35 => ⟨S32, .f32⟩
  | 36 => ⟨S_, .f32⟩
  | 37 => ⟨S32, .f32⟩
  | 38 => ⟨S32, .f32⟩
  | 39 => ⟨S_, .f32⟩
  | 40 => ⟨S32, .f32⟩
  | 41 => ⟨S32, .f32⟩
  | 42 => ⟨S_, .f32⟩
  | 43 => ⟨S32, .f32⟩
  | 44 => ⟨S32, .f32⟩
  | 45 => ⟨S_, .f32⟩
  | 46 => ⟨S32, .f32⟩
  | 47 => ⟨S32, .f32⟩
  | 48 => ⟨S_, .f32⟩
  | 49 => ⟨S32, .f32⟩
  | 50 => ⟨S32, .f32⟩
  | 51 => ⟨S32, .f32⟩
  | 52 => ⟨S_, .f32⟩
  | 53 => ⟨S32, .f32⟩
  | 54 => ⟨S32, .f32⟩
  | 55 => ⟨S_, .f32⟩
  | 56 => ⟨S32, .f32⟩
  | 57 => ⟨S32, .f32⟩
  | 58 => ⟨S_, .f32⟩
  | 59 => ⟨S_, .f32⟩
  | 60 => ⟨S_, .f32⟩
  | 61 => ⟨S32, .f32⟩
  | 62 => ⟨S32, .f32⟩
  | 63 => ⟨S_, .f32⟩
  | 64 => ⟨S32, .f32⟩
  | 65 => ⟨S32, .f32⟩
  | 66 => ⟨S_, .f32⟩
  | 67 => ⟨S32, .f32⟩
  | 68 => ⟨S32, .f32⟩
  | 69 => ⟨S_, .f32⟩
  | 70 => ⟨S32, .f32⟩
  | 71 => ⟨S32, .f32⟩
  | 72 => ⟨S32, .f32⟩
  | 73 => ⟨S32, .f32⟩
  | 74 => ⟨S32, .f32⟩
  | 75 => ⟨S2048, .f32⟩
  | 76 => ⟨S2048x1, .f32⟩
  | 77 => ⟨S1x32, .f32⟩
  | 78 => ⟨S2048x32, .f32⟩
  | 79 => ⟨S2048x32, .f32⟩
  | 80 => ⟨S2048x32, .f32⟩
  | 81 => ⟨S2048x32, .f32⟩
  | 82 => ⟨S_, .f32⟩
  | 83 => ⟨S2048x32, .f32⟩
  | 84 => ⟨S2048x32, .f32⟩
  | 85 => ⟨S2048x32, .f32⟩
  | 86 => ⟨S_, .f32⟩
  | 87 => ⟨S2048x32, .f32⟩
  | 88 => ⟨S2048x32, .f32⟩
  | 89 => ⟨S2048x64, .f32⟩
  | 90 => ⟨S1x2048x1x64, .f32⟩
  | 91 => ⟨S1x2048x8x64, .f32⟩
  | 92 => ⟨S2048x512, .f32⟩
  | 93 => ⟨S2048x32, .f32⟩
  | 94 => ⟨S2048x64, .f32⟩
  | 95 => ⟨S1x2048x1x64, .f32⟩
  | 96 => ⟨S1x2048x8x64, .f32⟩
  | 97 => ⟨S2048x512, .f32⟩
  | 98 => ⟨S512, .i32⟩
  | 99 => ⟨S512x1, .i32⟩
  | 100 => ⟨S_, .i32⟩
  | 101 => ⟨S_, .i32⟩
  | 102 => ⟨S512x1, .i32⟩
  | 103 => ⟨S512x1, .i32⟩
  | 104 => ⟨S512x1, .i32⟩
  | 105 => ⟨S_, .i32⟩
  | 106 => ⟨S512x1, .i32⟩
  | 107 => ⟨S512x1, .i1⟩
  | 108 => ⟨S512x1, .i32⟩
  | 109 => ⟨S512x1, .i32⟩
  | 110 => ⟨S_, .i32⟩
  | 111 => ⟨S512x1, .i32⟩
  | 112 => ⟨S512x1, .i1⟩
  | 113 => ⟨S512x1, .i1⟩
  | 114 => ⟨S_, .i32⟩
  | 115 => ⟨S512x1, .i32⟩
  | 116 => ⟨S512x1, .i32⟩
  | 117 => ⟨S512x1, .i32⟩
  | 118 => ⟨S1x512, .i32⟩
  | 119 => ⟨S_, .i32⟩
  | 120 => ⟨S_, .i32⟩
  | 121 => ⟨S1x512, .i32⟩
  | 122 => ⟨S1x512, .i32⟩
  | 123 => ⟨S1x512, .i32⟩
  | 124 => ⟨S_, .i32⟩
  | 125 => ⟨S1x512, .i32⟩
  | 126 => ⟨S1x512, .i1⟩
  | 127 => ⟨S1x512, .i32⟩
  | _ => ⟨S2048x2880, .f32⟩

abbrev hbmTy0_1 (i : Nat) : BufTy := match i % 128 with
  | 0 => ⟨S1x512, .i32⟩
  | 1 => ⟨S_, .i32⟩
  | 2 => ⟨S1x512, .i32⟩
  | 3 => ⟨S1x512, .i1⟩
  | 4 => ⟨S1x512, .i1⟩
  | 5 => ⟨S_, .i32⟩
  | 6 => ⟨S1x512, .i32⟩
  | 7 => ⟨S1x512, .i32⟩
  | 8 => ⟨S1x512, .i32⟩
  | 9 => ⟨S512x512, .i32⟩
  | 10 => ⟨S512x512, .i32⟩
  | 11 => ⟨S512x512, .i1⟩
  | 12 => ⟨S512x1, .i32⟩
  | 13 => ⟨S_, .i32⟩
  | 14 => ⟨S_, .i32⟩
  | 15 => ⟨S_, .i32⟩
  | 16 => ⟨S_, .i1⟩
  | 17 => ⟨S_, .i32⟩
  | 18 => ⟨S_, .i32⟩
  | 19 => ⟨S512x1, .i32⟩
  | 20 => ⟨S512x1, .i32⟩
  | 21 => ⟨S_, .i32⟩
  | 22 => ⟨S512x1, .i32⟩
  | 23 => ⟨S512x1, .i1⟩
  | 24 => ⟨S_, .i32⟩
  | 25 => ⟨S512x1, .i32⟩
  | 26 => ⟨S512x1, .i1⟩
  | 27 => ⟨S_, .i32⟩
  | 28 => ⟨S_, .i1⟩
  | 29 => ⟨S512x1, .i1⟩
  | 30 => ⟨S512x1, .i1⟩
  | 31 => ⟨S512x1, .i1⟩
  | 32 => ⟨S512x1, .i32⟩
  | 33 => ⟨S512x1, .i32⟩
  | 34 => ⟨S512x1, .i32⟩
  | 35 => ⟨S1x512, .i32⟩
  | 36 => ⟨S_, .i32⟩
  | 37 => ⟨S1x512, .i32⟩
  | 38 => ⟨S1x512, .i32⟩
  | 39 => ⟨S_, .i32⟩
  | 40 => ⟨S_, .i32⟩
  | 41 => ⟨S_, .i32⟩
  | 42 => ⟨S_, .i1⟩
  | 43 => ⟨S_, .i32⟩
  | 44 => ⟨S_, .i32⟩
  | 45 => ⟨S1x512, .i32⟩
  | 46 => ⟨S1x512, .i32⟩
  | 47 => ⟨S_, .i32⟩
  | 48 => ⟨S1x512, .i32⟩
  | 49 => ⟨S1x512, .i1⟩
  | 50 => ⟨S_, .i32⟩
  | 51 => ⟨S1x512, .i32⟩
  | 52 => ⟨S1x512, .i1⟩
  | 53 => ⟨S_, .i32⟩
  | 54 => ⟨S_, .i1⟩
  | 55 => ⟨S1x512, .i1⟩
  | 56 => ⟨S1x512, .i1⟩
  | 57 => ⟨S1x512, .i1⟩
  | 58 => ⟨S1x512, .i32⟩
  | 59 => ⟨S1x512, .i32⟩
  | 60 => ⟨S1x512, .i32⟩
  | 61 => ⟨S512x512, .i32⟩
  | 62 => ⟨S512x512, .i32⟩
  | 63 => ⟨S512x512, .i1⟩
  | 64 => ⟨S512x512, .i1⟩
  | 65 => ⟨S512x512, .bf16⟩
  | 66 => ⟨S2048x2880, .bf16⟩
  | 67 => ⟨S2048x5120, .bf16⟩
  | 68 => ⟨S2048x80x1x64, .bf16⟩
  | 69 => ⟨S256, .i32⟩
  | 70 => ⟨S256x1, .i32⟩
  | 71 => ⟨S128, .i32⟩
  | 72 => ⟨S1x128, .i32⟩
  | 73 => ⟨S256x128, .i32⟩
  | 74 => ⟨S256x128, .i32⟩
  | 75 => ⟨S256x128, .i32⟩
  | 76 => ⟨S_, .i32⟩
  | 77 => ⟨S1x128, .i32⟩
  | 78 => ⟨S1x128, .i32⟩
  | 79 => ⟨S256x128, .i32⟩
  | 80 => ⟨S256x128, .i32⟩
  | 81 => ⟨S256x128, .i32⟩
  | 82 => ⟨S_, .i32⟩
  | 83 => ⟨S256x128, .i32⟩
  | 84 => ⟨S256x128, .i1⟩
  | 85 => ⟨S_, .i32⟩
  | 86 => ⟨S256x128, .i32⟩
  | 87 => ⟨S256x128, .i1⟩
  | 88 => ⟨S256x128, .i1⟩
  | 89 => ⟨S_, .f32⟩
  | 90 => ⟨S_, .f32⟩
  | 91 => ⟨S256x128, .f32⟩
  | 92 => ⟨S256x128, .f32⟩
  | 93 => ⟨S256x128, .f32⟩
  | 94 => ⟨S_, .i32⟩
  | 95 => ⟨S256x128, .i32⟩
  | 96 => ⟨S256x128, .i1⟩
  | 97 => ⟨S_, .i32⟩
  | 98 => ⟨S256x128, .i32⟩
  | 99 => ⟨S256x128, .i1⟩
  | 100 => ⟨S256x128, .i1⟩
  | 101 => ⟨S_, .f32⟩
  | 102 => ⟨S_, .f32⟩
  | 103 => ⟨S256x128, .f32⟩
  | 104 => ⟨S256x128, .f32⟩
  | 105 => ⟨S256x128, .f32⟩
  | 106 => ⟨S1x256x1x128, .f32⟩
  | 107 => ⟨S1x256x8x128, .f32⟩
  | 108 => ⟨S256x1024, .f32⟩
  | 109 => ⟨S1x256x1x128, .f32⟩
  | 110 => ⟨S1x256x8x128, .f32⟩
  | 111 => ⟨S256x1024, .f32⟩
  | 112 => ⟨S1x256x1024, .f32⟩
  | 113 => ⟨S1x256x1024, .f32⟩
  | 114 => ⟨S2x256x1024, .f32⟩
  | 115 => ⟨S2x256x1024, .f32⟩
  | 116 => ⟨S8x8, .f32⟩
  | 117 => ⟨S8x8x128, .f32⟩
  | 118 => ⟨S8x1024, .f32⟩
  | 119 => ⟨S8x1x1024, .f32⟩
  | 120 => ⟨S4096x2880, .f32⟩
  | 121 => ⟨S4096x2880, .bf16⟩
  | 122 => ⟨S1x2880, .f32⟩
  | 123 => ⟨S2048x2880, .f32⟩
  | _ => ⟨S2048x2880, .f32⟩

abbrev hbmTy (i : Nat) : BufTy := match i / 128 with
  | 0 => hbmTy0_0 i
  | 1 => hbmTy0_1 i
  | _ => ⟨S2048x2880, .f32⟩

abbrev bufTy : (tb : Table) → Fin (tcTables nBuf tb) → BufTy
  | .hbm, ⟨i, _⟩ => hbmTy i
  | .local _ .vmem, ⟨0, _⟩ => ⟨S2048x2880, .bf16⟩
  | .local _ .vmem, ⟨1, _⟩ => ⟨S2880x512, .bf16⟩
  | .local _ .vmem, ⟨2, _⟩ => ⟨S2880x512, .bf16⟩
  | .local _ .vmem, ⟨3, _⟩ => ⟨S1x512, .f32⟩
  | .local _ .vmem, ⟨4, _⟩ => ⟨S1x512, .f32⟩
  | .local _ .vmem, ⟨5, _⟩ => ⟨S2048x512, .f32⟩
  | .local _ .vmem, ⟨6, _⟩ => ⟨S2048x512, .f32⟩
  | .local _ .vmem, ⟨7, _⟩ => ⟨S512x512, .bf16⟩
  | .local _ .vmem, ⟨8, _⟩ => ⟨S2048x512, .bf16⟩
  | .local _ .vmem, ⟨9, _⟩ => ⟨S2048x512, .bf16⟩
  | .local _ .vmem, ⟨10, _⟩ => ⟨S512x8x1x64, .bf16⟩
  | .local _ .vmem, ⟨11, _⟩ => ⟨S512x8x1x64, .bf16⟩
  | .local _ .vmem, ⟨12, _⟩ => ⟨S512x1x1x64, .bf16⟩
  | .local _ .vmem, ⟨13, _⟩ => ⟨S512x1x1x64, .bf16⟩
  | .local _ .vmem, ⟨14, _⟩ => ⟨S512x1x1x64, .bf16⟩
  | .local _ .vmem, ⟨15, _⟩ => ⟨S512x1x1x64, .bf16⟩
  | .local _ .vmem, ⟨16, _⟩ => ⟨S2x256x1024, .f32⟩
  | .local _ .vmem, ⟨17, _⟩ => ⟨S1x1x1024, .f32⟩
  | .local _ .vmem, ⟨18, _⟩ => ⟨S1x1x1024, .f32⟩
  | .local _ .vmem, ⟨19, _⟩ => ⟨S4096x2880, .bf16⟩
  | .local _ .vmem, ⟨20, _⟩ => ⟨S1x2880, .f32⟩
  | .local _ .vmem, ⟨21, _⟩ => ⟨S512x2880, .f32⟩
  | .local _ .vmem, ⟨22, _⟩ => ⟨S512x2880, .f32⟩
  | .local _ .vmem, ⟨23, _⟩ => ⟨S512x512, .bf16⟩
  | _, _ => ⟨S2048x2880, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_cst_6 : Ref sig .tc := ⟨.hbm, 45, rfl⟩
abbrev main_v27 : Ref sig .tc := ⟨.hbm, 46, rfl⟩
abbrev main_v28 : Ref sig .tc := ⟨.hbm, 47, rfl⟩
abbrev main_cst_7 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_8 : Ref sig .tc := ⟨.hbm, 52, rfl⟩
abbrev main_v32 : Ref sig .tc := ⟨.hbm, 53, rfl⟩
abbrev main_v33 : Ref sig .tc := ⟨.hbm, 54, rfl⟩
abbrev main_cst_9 : Ref sig .tc := ⟨.hbm, 55, rfl⟩
abbrev main_v34 : Ref sig .tc := ⟨.hbm, 56, rfl⟩
abbrev main_v35 : Ref sig .tc := ⟨.hbm, 57, rfl⟩
abbrev main_cst_10 : Ref sig .tc := ⟨.hbm, 58, rfl⟩
abbrev main_cst_11 : Ref sig .tc := ⟨.hbm, 59, rfl⟩
abbrev main_call0_v0 : Ref sig .tc := ⟨.hbm, 60, rfl⟩
abbrev main_call0_v1 : Ref sig .tc := ⟨.hbm, 61, rfl⟩
abbrev main_call0_v2 : Ref sig .tc := ⟨.hbm, 62, rfl⟩
abbrev main_call0_v3 : Ref sig .tc := ⟨.hbm, 63, rfl⟩
abbrev main_call0_v4 : Ref sig .tc := ⟨.hbm, 64, rfl⟩
abbrev main_v36 : Ref sig .tc := ⟨.hbm, 65, rfl⟩
abbrev main_cst_12 : Ref sig .tc := ⟨.hbm, 66, rfl⟩
abbrev main_v37 : Ref sig .tc := ⟨.hbm, 67, rfl⟩
abbrev main_v38 : Ref sig .tc := ⟨.hbm, 68, rfl⟩
abbrev main_cst_13 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_14 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_15 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_c : Ref sig .tc := ⟨.hbm, 100, rfl⟩
abbrev main_call1_v0 : Ref sig .tc := ⟨.hbm, 101, rfl⟩
abbrev main_call1_v1 : Ref sig .tc := ⟨.hbm, 102, rfl⟩
abbrev main_call1_v2 : Ref sig .tc := ⟨.hbm, 103, rfl⟩
abbrev main_call1_v3 : Ref sig .tc := ⟨.hbm, 104, rfl⟩
abbrev main_call1_v4 : Ref sig .tc := ⟨.hbm, 105, rfl⟩
abbrev main_call1_v5 : Ref sig .tc := ⟨.hbm, 106, rfl⟩
abbrev main_call1_v6 : Ref sig .tc := ⟨.hbm, 107, rfl⟩
abbrev main_call1_v7 : Ref sig .tc := ⟨.hbm, 108, rfl⟩
abbrev main_call1_v8 : Ref sig .tc := ⟨.hbm, 109, rfl⟩
abbrev main_call1_c : Ref sig .tc := ⟨.hbm, 110, rfl⟩
abbrev main_call1_v9 : Ref sig .tc := ⟨.hbm, 111, rfl⟩
abbrev main_call1_v10 : Ref sig .tc := ⟨.hbm, 112, rfl⟩
abbrev main_call1_v11 : Ref sig .tc := ⟨.hbm, 113, rfl⟩
abbrev main_call1_c_0 : Ref sig .tc := ⟨.hbm, 114, rfl⟩
abbrev main_call1_v12 : Ref sig .tc := ⟨.hbm, 115, rfl⟩
abbrev main_call1_v13 : Ref sig .tc := ⟨.hbm, 116, rfl⟩
abbrev main_v67 : Ref sig .tc := ⟨.hbm, 117, rfl⟩
abbrev main_v68 : Ref sig .tc := ⟨.hbm, 118, rfl⟩
abbrev main_c_16 : Ref sig .tc := ⟨.hbm, 119, rfl⟩
abbrev main_call2_v0 : Ref sig .tc := ⟨.hbm, 120, rfl⟩
abbrev main_call2_v1 : Ref sig .tc := ⟨.hbm, 121, rfl⟩
abbrev main_call2_v2 : Ref sig .tc := ⟨.hbm, 122, rfl⟩
abbrev main_call2_v3 : Ref sig .tc := ⟨.hbm, 123, rfl⟩
abbrev main_call2_v4 : Ref sig .tc := ⟨.hbm, 124, rfl⟩
abbrev main_call2_v5 : Ref sig .tc := ⟨.hbm, 125, rfl⟩
abbrev main_call2_v6 : Ref sig .tc := ⟨.hbm, 126, rfl⟩
abbrev main_call2_v7 : Ref sig .tc := ⟨.hbm, 127, rfl⟩
abbrev main_call2_v8 : Ref sig .tc := ⟨.hbm, 128, rfl⟩
abbrev main_call2_c : Ref sig .tc := ⟨.hbm, 129, rfl⟩
abbrev main_call2_v9 : Ref sig .tc := ⟨.hbm, 130, rfl⟩
abbrev main_call2_v10 : Ref sig .tc := ⟨.hbm, 131, rfl⟩
abbrev main_call2_v11 : Ref sig .tc := ⟨.hbm, 132, rfl⟩
abbrev main_call2_c_0 : Ref sig .tc := ⟨.hbm, 133, rfl⟩
abbrev main_call2_v12 : Ref sig .tc := ⟨.hbm, 134, rfl⟩
abbrev main_call2_v13 : Ref sig .tc := ⟨.hbm, 135, rfl⟩
abbrev main_v69 : Ref sig .tc := ⟨.hbm, 136, rfl⟩
abbrev main_v70 : Ref sig .tc := ⟨.hbm, 137, rfl⟩
abbrev main_v71 : Ref sig .tc := ⟨.hbm, 138, rfl⟩
abbrev main_v72 : Ref sig .tc := ⟨.hbm, 139, rfl⟩
abbrev main_v73 : Ref sig .tc := ⟨.hbm, 140, rfl⟩
abbrev main_c_17 : Ref sig .tc := ⟨.hbm, 141, rfl⟩
abbrev main_call3_v0 : Ref sig .tc := ⟨.hbm, 142, rfl⟩
abbrev main_call3_c : Ref sig .tc := ⟨.hbm, 143, rfl⟩
abbrev main_call3_v1 : Ref sig .tc := ⟨.hbm, 144, rfl⟩
abbrev main_call3_c_0 : Ref sig .tc := ⟨.hbm, 145, rfl⟩
abbrev main_call3_v2 : Ref sig .tc := ⟨.hbm, 146, rfl⟩
abbrev main_call3_v3 : Ref sig .tc := ⟨.hbm, 147, rfl⟩
abbrev main_call3_v4 : Ref sig .tc := ⟨.hbm, 148, rfl⟩
abbrev main_call3_c_1 : Ref sig .tc := ⟨.hbm, 149, rfl⟩
abbrev main_call3_v5 : Ref sig .tc := ⟨.hbm, 150, rfl⟩
abbrev main_call3_v6 : Ref sig .tc := ⟨.hbm, 151, rfl⟩
abbrev main_call3_c_2 : Ref sig .tc := ⟨.hbm, 152, rfl⟩
abbrev main_call3_v7 : Ref sig .tc := ⟨.hbm, 153, rfl⟩
abbrev main_call3_v8 : Ref sig .tc := ⟨.hbm, 154, rfl⟩
abbrev main_call3_c_3 : Ref sig .tc := ⟨.hbm, 155, rfl⟩
abbrev main_call3_v9 : Ref sig .tc := ⟨.hbm, 156, rfl⟩
abbrev main_call3_v10 : Ref sig .tc := ⟨.hbm, 157, rfl⟩
abbrev main_call3_v11 : Ref sig .tc := ⟨.hbm, 158, rfl⟩
abbrev main_call3_v12 : Ref sig .tc := ⟨.hbm, 159, rfl⟩
abbrev main_call3_v13 : Ref sig .tc := ⟨.hbm, 160, rfl⟩
abbrev main_call3_v14 : Ref sig .tc := ⟨.hbm, 161, rfl⟩
abbrev main_v74 : Ref sig .tc := ⟨.hbm, 162, rfl⟩
abbrev main_v75 : Ref sig .tc := ⟨.hbm, 163, rfl⟩
abbrev main_c_18 : Ref sig .tc := ⟨.hbm, 164, rfl⟩
abbrev main_v76 : Ref sig .tc := ⟨.hbm, 165, rfl⟩
abbrev main_v77 : Ref sig .tc := ⟨.hbm, 166, rfl⟩
abbrev main_c_19 : Ref sig .tc := ⟨.hbm, 167, rfl⟩
abbrev main_call4_v0 : Ref sig .tc := ⟨.hbm, 168, rfl⟩
abbrev main_call4_c : Ref sig .tc := ⟨.hbm, 169, rfl⟩
abbrev main_call4_v1 : Ref sig .tc := ⟨.hbm, 170, rfl⟩
abbrev main_call4_c_0 : Ref sig .tc := ⟨.hbm, 171, rfl⟩
abbrev main_call4_v2 : Ref sig .tc := ⟨.hbm, 172, rfl⟩
abbrev main_call4_v3 : Ref sig .tc := ⟨.hbm, 173, rfl⟩
abbrev main_call4_v4 : Ref sig .tc := ⟨.hbm, 174, rfl⟩
abbrev main_call4_c_1 : Ref sig .tc := ⟨.hbm, 175, rfl⟩
abbrev main_call4_v5 : Ref sig .tc := ⟨.hbm, 176, rfl⟩
abbrev main_call4_v6 : Ref sig .tc := ⟨.hbm, 177, rfl⟩
abbrev main_call4_c_2 : Ref sig .tc := ⟨.hbm, 178, rfl⟩
abbrev main_call4_v7 : Ref sig .tc := ⟨.hbm, 179, rfl⟩
abbrev main_call4_v8 : Ref sig .tc := ⟨.hbm, 180, rfl⟩
abbrev main_call4_c_3 : Ref sig .tc := ⟨.hbm, 181, rfl⟩
abbrev main_call4_v9 : Ref sig .tc := ⟨.hbm, 182, rfl⟩
abbrev main_call4_v10 : Ref sig .tc := ⟨.hbm, 183, rfl⟩
abbrev main_call4_v11 : Ref sig .tc := ⟨.hbm, 184, rfl⟩
abbrev main_call4_v12 : Ref sig .tc := ⟨.hbm, 185, rfl⟩
abbrev main_call4_v13 : Ref sig .tc := ⟨.hbm, 186, rfl⟩
abbrev main_call4_v14 : Ref sig .tc := ⟨.hbm, 187, rfl⟩
abbrev main_v78 : Ref sig .tc := ⟨.hbm, 188, rfl⟩
abbrev main_v79 : Ref sig .tc := ⟨.hbm, 189, rfl⟩
abbrev main_v80 : Ref sig .tc := ⟨.hbm, 190, rfl⟩
abbrev main_v81 : Ref sig .tc := ⟨.hbm, 191, rfl⟩
abbrev main_v82 : Ref sig .tc := ⟨.hbm, 192, rfl⟩
abbrev main_v83 : Ref sig .tc := ⟨.hbm, 193, rfl⟩
abbrev main_v84 : Ref sig .tc := ⟨.hbm, 194, rfl⟩
abbrev main_v85 : Ref sig .tc := ⟨.hbm, 195, rfl⟩
abbrev main_v86 : Ref sig .tc := ⟨.hbm, 196, rfl⟩
abbrev main_v87 : Ref sig .tc := ⟨.hbm, 197, rfl⟩
abbrev main_v88 : Ref sig .tc := ⟨.hbm, 198, rfl⟩
abbrev main_v89 : Ref sig .tc := ⟨.hbm, 199, rfl⟩
abbrev main_v90 : Ref sig .tc := ⟨.hbm, 200, rfl⟩
abbrev main_v91 : Ref sig .tc := ⟨.hbm, 201, rfl⟩
abbrev main_v92 : Ref sig .tc := ⟨.hbm, 202, rfl⟩
abbrev main_v93 : Ref sig .tc := ⟨.hbm, 203, rfl⟩
abbrev main_c_20 : Ref sig .tc := ⟨.hbm, 204, rfl⟩
abbrev main_v94 : Ref sig .tc := ⟨.hbm, 205, rfl⟩
abbrev main_v95 : Ref sig .tc := ⟨.hbm, 206, rfl⟩
abbrev main_v96 : Ref sig .tc := ⟨.hbm, 207, rfl⟩
abbrev main_v97 : Ref sig .tc := ⟨.hbm, 208, rfl⟩
abbrev main_v98 : Ref sig .tc := ⟨.hbm, 209, rfl⟩
abbrev main_c_21 : Ref sig .tc := ⟨.hbm, 210, rfl⟩
abbrev main_v99 : Ref sig .tc := ⟨.hbm, 211, rfl⟩
abbrev main_v100 : Ref sig .tc := ⟨.hbm, 212, rfl⟩
abbrev main_c_22 : Ref sig .tc := ⟨.hbm, 213, rfl⟩
abbrev main_v101 : Ref sig .tc := ⟨.hbm, 214, rfl⟩
abbrev main_v102 : Ref sig .tc := ⟨.hbm, 215, rfl⟩
abbrev main_v103 : Ref sig .tc := ⟨.hbm, 216, rfl⟩
abbrev main_cst_23 : Ref sig .tc := ⟨.hbm, 217, rfl⟩
abbrev main_cst_24 : Ref sig .tc := ⟨.hbm, 218, rfl⟩
abbrev main_call5_v0 : Ref sig .tc := ⟨.hbm, 219, rfl⟩
abbrev main_call5_v1 : Ref sig .tc := ⟨.hbm, 220, rfl⟩
abbrev main_v104 : Ref sig .tc := ⟨.hbm, 221, rfl⟩
abbrev main_c_25 : Ref sig .tc := ⟨.hbm, 222, rfl⟩
abbrev main_v105 : Ref sig .tc := ⟨.hbm, 223, rfl⟩
abbrev main_v106 : Ref sig .tc := ⟨.hbm, 224, rfl⟩
abbrev main_c_26 : Ref sig .tc := ⟨.hbm, 225, rfl⟩
abbrev main_v107 : Ref sig .tc := ⟨.hbm, 226, rfl⟩
abbrev main_v108 : Ref sig .tc := ⟨.hbm, 227, rfl⟩
abbrev main_v109 : Ref sig .tc := ⟨.hbm, 228, rfl⟩
abbrev main_cst_27 : Ref sig .tc := ⟨.hbm, 229, rfl⟩
abbrev main_cst_28 : Ref sig .tc := ⟨.hbm, 230, rfl⟩
abbrev main_call6_v0 : Ref sig .tc := ⟨.hbm, 231, rfl⟩
abbrev main_call6_v1 : Ref sig .tc := ⟨.hbm, 232, rfl⟩
abbrev main_v110 : Ref sig .tc := ⟨.hbm, 233, rfl⟩
abbrev main_v111 : Ref sig .tc := ⟨.hbm, 234, rfl⟩
abbrev main_v112 : Ref sig .tc := ⟨.hbm, 235, rfl⟩
abbrev main_v113 : Ref sig .tc := ⟨.hbm, 236, rfl⟩
abbrev main_v114 : Ref sig .tc := ⟨.hbm, 237, rfl⟩
abbrev main_v115 : Ref sig .tc := ⟨.hbm, 238, rfl⟩
abbrev main_v116 : Ref sig .tc := ⟨.hbm, 239, rfl⟩
abbrev main_v117 : Ref sig .tc := ⟨.hbm, 240, rfl⟩
abbrev main_v118 : Ref sig .tc := ⟨.hbm, 241, rfl⟩
abbrev main_v119 : Ref sig .tc := ⟨.hbm, 242, rfl⟩
abbrev main_v120 : Ref sig .tc := ⟨.hbm, 243, rfl⟩
abbrev main_v121 : Ref sig .tc := ⟨.hbm, 244, rfl⟩
abbrev main_v122 : Ref sig .tc := ⟨.hbm, 245, rfl⟩
abbrev main_v123 : Ref sig .tc := ⟨.hbm, 246, rfl⟩
abbrev main_v124 : Ref sig .tc := ⟨.hbm, 247, rfl⟩
abbrev main_v125 : Ref sig .tc := ⟨.hbm, 248, rfl⟩
abbrev main_v126 : Ref sig .tc := ⟨.hbm, 249, rfl⟩
abbrev main_v127 : Ref sig .tc := ⟨.hbm, 250, rfl⟩
abbrev main_v128 : Ref sig .tc := ⟨.hbm, 251, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg7_1 : Ref sig .tc := ⟨.vmem, 22, rfl⟩
abbrev cc1_scratch0 : Ref sig .tc := ⟨.vmem, 23, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem4_1 : DmaSem sig := 18
abbrev cc1_sem5_0 : DmaSem sig := 19
abbrev cc1_sem6_0 : DmaSem sig := 20
abbrev cc1_sem7_0 : DmaSem sig := 21
abbrev cc1_sem7_1 : DmaSem sig := 22

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x2880 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2880x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![4, 8], ![false, false]⟩

def k1_off1 (i : grid1.Coords) : Fin 2 → Nat :=
  let arg1 : BitVec 32 := BitVec.ofNat 32 (i 1).val
  let c8_i32 : BitVec 32 := 8#32
  let v273 : BitVec 32 := Scalar.muli arg1 c8_i32
  let c64_i32 : BitVec 32 := 64#32
  let v274 : BitVec 32 := Scalar.muli v273 c64_i32
  let v275 : Index := Scalar.indexCast v274
  let c0_94 : Index := 0#32
  ![v275.toNat, 0]
def k1_cond1 (i : grid1.Coords) : BitVec 1 :=
  let arg1 : BitVec 32 := BitVec.ofNat 32 (i 1).val
  let c0_i32 : BitVec 32 := 0#32
  let v280 : BitVec 1 := Scalar.cmpi .eq arg1 c0_i32
  let v281 : BitVec 32 := Scalar.extui v280
  let c0_i32_98 : BitVec 32 := 0#32
  let v282 : BitVec 1 := Scalar.cmpi .ne v281 c0_i32_98
  v282

def k1_cond2 (i : grid1.Coords) : BitVec 1 :=
  let arg1 : BitVec 32 := BitVec.ofNat 32 (i 1).val
  let c0_i32_99 : BitVec 32 := 0#32
  let v283 : BitVec 1 := Scalar.cmpi .ne arg1 c0_i32_99
  let v284 : BitVec 32 := Scalar.extui v283
  let c0_i32_100 : BitVec 32 := 0#32
  let v285 : BitVec 1 := Scalar.cmpi .ne v284 c0_i32_100
  v285

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg1
  let c0_i32 : BitVec 32 := 0#32
  let c0_i32_0 : BitVec 32 := 0#32
  let c0_i32_1 : BitVec 32 := 0#32
  ![arg0.toNat, v0.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c72_i32 : BitVec 32 := 72#32
  let v0 : BitVec 32 := Scalar.addi c72_i32 arg1
  let c0_i32 : BitVec 32 := 0#32
  let c0_i32_0 : BitVec 32 := 0#32
  let c0_i32_1 : BitVec 32 := 0#32
  ![arg0.toNat, v0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x8x1x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x1x1x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S512x1x1x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S2x256x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x1x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 1 → Memref sig .tc .vmem S4096x2880 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x2880 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S512x2880 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]
-- ==== ReferenceIdeal.lean ====
abbrev S2048x2880 : Shape := ⟨2, ![2048, 2880]⟩
abbrev S2880x64x64 : Shape := ⟨3, ![2880, 64, 64]⟩
abbrev S64x64 : Shape := ⟨2, ![64, 64]⟩
abbrev S2880x8x64 : Shape := ⟨3, ![2880, 8, 64]⟩
abbrev S8x64 : Shape := ⟨2, ![8, 64]⟩
abbrev S64x64x2880 : Shape := ⟨3, ![64, 64, 2880]⟩
abbrev S2880 : Shape := ⟨1, ![2880]⟩
abbrev S64 : Shape := ⟨1, ![64]⟩
abbrev S2048 : Shape := ⟨1, ![2048]⟩
abbrev S2048x64x64 : Shape := ⟨3, ![2048, 64, 64]⟩
abbrev S1x64x64 : Shape := ⟨3, ![1, 64, 64]⟩
abbrev S2048x8x64 : Shape := ⟨3, ![2048, 8, 64]⟩
abbrev S1x8x64 : Shape := ⟨3, ![1, 8, 64]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x64x32 : Shape := ⟨3, ![2048, 64, 32]⟩
abbrev S2048x1x32 : Shape := ⟨3, ![2048, 1, 32]⟩
abbrev S2048x8x32 : Shape := ⟨3, ![2048, 8, 32]⟩
abbrev S4x512x8x8x64 : Shape := ⟨5, ![4, 512, 8, 8, 64]⟩
abbrev S4x512x8x64 : Shape := ⟨4, ![4, 512, 8, 64]⟩
abbrev S4x8x512x512x8 : Shape := ⟨5, ![4, 8, 512, 512, 8]⟩
abbrev S4x8x8x512x512 : Shape := ⟨5, ![4, 8, 8, 512, 512]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S8x8 : Shape := ⟨2, ![8, 8]⟩
abbrev S1x8x8x1 : Shape := ⟨4, ![1, 8, 8, 1]⟩
abbrev S4x8x8x512 : Shape := ⟨4, ![4, 8, 8, 512]⟩
abbrev S4x8x8x512x1 : Shape := ⟨5, ![4, 8, 8, 512, 1]⟩
abbrev S4x8x64x8x512 : Shape := ⟨5, ![4, 8, 64, 8, 512]⟩
abbrev S4x512x8x8 : Shape := ⟨4, ![4, 512, 8, 8]⟩
abbrev S4x512x8x8x1 : Shape := ⟨5, ![4, 512, 8, 8, 1]⟩
abbrev S1x2880 : Shape := ⟨2, ![1, 2880]⟩

abbrev nBuf : Space → Nat
  | .hbm => 166
  | .vmem => 0
  | .smem => 0
  | _ => 0

abbrev hbmTy0_0 (i : Nat) : BufTy := match i % 128 with
  | 0 => ⟨S2048x2880, .f32⟩
  | 1 => ⟨S2880x64x64, .f32⟩
  | 2 => ⟨S64x64, .f32⟩
  | 3 => ⟨S2880x8x64, .f32⟩
  | 4 => ⟨S8x64, .f32⟩
  | 5 => ⟨S2880x8x64, .f32⟩
  | 6 => ⟨S8x64, .f32⟩
  | 7 => ⟨S64x64x2880, .f32⟩
  | 8 => ⟨S2880, .f32⟩
  | 9 => ⟨S64, .f32⟩
  | 10 => ⟨S2048, .i32⟩
  | 11 => ⟨S2048x64x64, .f32⟩
  | 12 => ⟨S1x64x64, .f32⟩
  | 13 => ⟨S2048x64x64, .f32⟩
  | 14 => ⟨S2048x64x64, .f32⟩
  | 15 => ⟨S2048x8x64, .f32⟩
  | 16 => ⟨S1x8x64, .f32⟩
  | 17 => ⟨S2048x8x64, .f32⟩
  | 18 => ⟨S2048x8x64, .f32⟩
  | 19 => ⟨S2048x8x64, .f32⟩
  | 20 => ⟨S1x8x64, .f32⟩
  | 21 => ⟨S2048x8x64, .f32⟩
  | 22 => ⟨S2048x8x64, .f32⟩
  | 23 => ⟨S32, .f32⟩
  | 24 => ⟨S_, .f32⟩
  | 25 => ⟨S32, .f32⟩
  | 26 => ⟨S32, .f32⟩
  | 27 => ⟨S_, .f32⟩
  | 28 => ⟨S32, .f32⟩
  | 29 => ⟨S32, .f32⟩
  | 30 => ⟨S_, .f32⟩
  | 31 => ⟨S32, .f32⟩
  | 32 => ⟨S32, .f32⟩
  | 33 => ⟨S_, .f32⟩
  | 34 => ⟨S32, .f32⟩
  | 35 => ⟨S32, .f32⟩
  | 36 => ⟨S_, .f32⟩
  | 37 => ⟨S32, .f32⟩
  | 38 => ⟨S32, .f32⟩
  | 39 => ⟨S_, .f32⟩
  | 40 => ⟨S32, .f32⟩
  | 41 => ⟨S32, .f32⟩
  | 42 => ⟨S_, .f32⟩
  | 43 => ⟨S32, .f32⟩
  | 44 => ⟨S32, .f32⟩
  | 45 => ⟨S32, .f32⟩
  | 46 => ⟨S_, .f32⟩
  | 47 => ⟨S32, .f32⟩
  | 48 => ⟨S32, .f32⟩
  | 49 => ⟨S_, .f32⟩
  | 50 => ⟨S32, .f32⟩
  | 51 => ⟨S32, .f32⟩
  | 52 => ⟨S_, .f32⟩
  | 53 => ⟨S_, .f32⟩
  | 54 => ⟨S_, .f32⟩
  | 55 => ⟨S32, .f32⟩
  | 56 => ⟨S32, .f32⟩
  | 57 => ⟨S_, .f32⟩
  | 58 => ⟨S32, .f32⟩
  | 59 => ⟨S32, .f32⟩
  | 60 => ⟨S_, .f32⟩
  | 61 => ⟨S32, .f32⟩
  | 62 => ⟨S32, .f32⟩
  | 63 => ⟨S_, .f32⟩
  | 64 => ⟨S32, .f32⟩
  | 65 => ⟨S32, .f32⟩
  | 66 => ⟨S32, .f32⟩
  | 67 => ⟨S32, .f32⟩
  | 68 => ⟨S32, .f32⟩
  | 69 => ⟨S2048, .f32⟩
  | 70 => ⟨S2048x1, .f32⟩
  | 71 => ⟨S1x32, .f32⟩
  | 72 => ⟨S2048x32, .f32⟩
  | 73 => ⟨S2048x32, .f32⟩
  | 74 => ⟨S2048x32, .f32⟩
  | 75 => ⟨S2048x32, .f32⟩
  | 76 => ⟨S_, .f32⟩
  | 77 => ⟨S2048x32, .f32⟩
  | 78 => ⟨S2048x32, .f32⟩
  | 79 => ⟨S2048x32, .f32⟩
  | 80 => ⟨S_, .f32⟩
  | 81 => ⟨S2048x32, .f32⟩
  | 82 => ⟨S2048x32, .f32⟩
  | 83 => ⟨S2048x64x32, .f32⟩
  | 84 => ⟨S2048x64x32, .f32⟩
  | 85 => ⟨S2048x1x32, .f32⟩
  | 86 => ⟨S2048x1x32, .f32⟩
  | 87 => ⟨S2048x64x32, .f32⟩
  | 88 => ⟨S2048x64x32, .f32⟩
  | 89 => ⟨S2048x64x32, .f32⟩
  | 90 => ⟨S2048x64x32, .f32⟩
  | 91 => ⟨S2048x64x32, .f32⟩
  | 92 => ⟨S2048x64x32, .f32⟩
  | 93 => ⟨S2048x64x32, .f32⟩
  | 94 => ⟨S2048x64x32, .f32⟩
  | 95 => ⟨S2048x64x32, .f32⟩
  | 96 => ⟨S2048x64x32, .f32⟩
  | 97 => ⟨S2048x64x64, .f32⟩
  | 98 => ⟨S2048x8x32, .f32⟩
  | 99 => ⟨S2048x8x32, .f32⟩
  | 100 => ⟨S2048x1x32, .f32⟩
  | 101 => ⟨S2048x1x32, .f32⟩
  | 102 => ⟨S2048x8x32, .f32⟩
  | 103 => ⟨S2048x8x32, .f32⟩
  | 104 => ⟨S2048x8x32, .f32⟩
  | 105 => ⟨S2048x8x32, .f32⟩
  | 106 => ⟨S2048x8x32, .f32⟩
  | 107 => ⟨S2048x8x32, .f32⟩
  | 108 => ⟨S2048x8x32, .f32⟩
  | 109 => ⟨S2048x8x32, .f32⟩
  | 110 => ⟨S2048x8x32, .f32⟩
  | 111 => ⟨S2048x8x32, .f32⟩
  | 112 => ⟨S2048x8x64, .f32⟩
  | 113 => ⟨S4x512x8x8x64, .f32⟩
  | 114 => ⟨S4x512x8x64, .f32⟩
  | 115 => ⟨S4x512x8x64, .f32⟩
  | 116 => ⟨S4x8x512x512x8, .f32⟩
  | 117 => ⟨S4x8x8x512x512, .f32⟩
  | 118 => ⟨S_, .f32⟩
  | 119 => ⟨S4x8x8x512x512, .f32⟩
  | 120 => ⟨S4x8x8x512x512, .f32⟩
  | 121 => ⟨S512, .i32⟩
  | 122 => ⟨S512x1, .i32⟩
  | 123 => ⟨S1x512, .i32⟩
  | 124 => ⟨S512x512, .i32⟩
  | 125 => ⟨S512x512, .i32⟩
  | 126 => ⟨S512x512, .i32⟩
  | 127 => ⟨S_, .i32⟩
  | _ => ⟨S2048x2880, .f32⟩

abbrev hbmTy0_1 (i : Nat) : BufTy := match i % 128 with
  | 0 => ⟨S512x512, .i32⟩
  | 1 => ⟨S512x512, .i1⟩
  | 2 => ⟨S_, .i32⟩
  | 3 => ⟨S512x512, .i32⟩
  | 4 => ⟨S512x512, .i1⟩
  | 5 => ⟨S512x512, .i1⟩
  | 6 => ⟨S_, .f32⟩
  | 7 => ⟨S_, .f32⟩
  | 8 => ⟨S4x8x8x512x512, .i1⟩
  | 9 => ⟨S4x8x8x512x512, .f32⟩
  | 10 => ⟨S4x8x8x512x512, .f32⟩
  | 11 => ⟨S8x8, .f32⟩
  | 12 => ⟨S1x8x8x1, .f32⟩
  | 13 => ⟨S_, .f32⟩
  | 14 => ⟨S4x8x8x512, .f32⟩
  | 15 => ⟨S4x8x8x512, .f32⟩
  | 16 => ⟨S4x8x8x512, .f32⟩
  | 17 => ⟨S4x8x8x512x1, .f32⟩
  | 18 => ⟨S4x8x8x512x512, .f32⟩
  | 19 => ⟨S4x8x8x512x512, .f32⟩
  | 20 => ⟨S4x8x8x512x512, .f32⟩
  | 21 => ⟨S4x8x8x512, .f32⟩
  | 22 => ⟨S4x8x8x512, .f32⟩
  | 23 => ⟨S4x8x8x512, .f32⟩
  | 24 => ⟨S_, .f32⟩
  | 25 => ⟨S4x8x8x512, .f32⟩
  | 26 => ⟨S4x8x8x512, .f32⟩
  | 27 => ⟨S4x8x64x8x512, .f32⟩
  | 28 => ⟨S4x512x8x8x64, .f32⟩
  | 29 => ⟨S4x512x8x8, .f32⟩
  | 30 => ⟨S4x512x8x8x1, .f32⟩
  | 31 => ⟨S4x512x8x8x64, .f32⟩
  | 32 => ⟨S4x512x8x8x64, .f32⟩
  | 33 => ⟨S2048x64x64, .f32⟩
  | 34 => ⟨S2048x2880, .f32⟩
  | 35 => ⟨S1x2880, .f32⟩
  | 36 => ⟨S2048x2880, .f32⟩
  | 37 => ⟨S2048x2880, .f32⟩
  | _ => ⟨S2048x2880, .f32⟩

abbrev hbmTy (i : Nat) : BufTy := match i / 128 with
  | 0 => hbmTy0_0 i
  | 1 => hbmTy0_1 i
  | _ => ⟨S2048x2880, .f32⟩

abbrev bufTy : (tb : Table) → Fin (tcTables nBuf tb) → BufTy
  | .hbm, ⟨i, _⟩ => hbmTy i
  | _, _ => ⟨S2048x2880, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_6 : Ref sig .tc := ⟨.hbm, 46, rfl⟩
abbrev main_v28 : Ref sig .tc := ⟨.hbm, 47, rfl⟩
abbrev main_v29 : Ref sig .tc := ⟨.hbm, 48, rfl⟩
abbrev main_cst_7 : Ref sig .tc := ⟨.hbm, 49, rfl⟩
abbrev main_v30 : Ref sig .tc := ⟨.hbm, 50, rfl⟩
abbrev main_v31 : Ref sig .tc := ⟨.hbm, 51, rfl⟩
abbrev main_cst_8 : Ref sig .tc := ⟨.hbm, 52, rfl⟩
abbrev main_cst_9 : Ref sig .tc := ⟨.hbm, 53, rfl⟩
abbrev main_call0_v0 : Ref sig .tc := ⟨.hbm, 54, rfl⟩
abbrev main_call0_v1 : Ref sig .tc := ⟨.hbm, 55, rfl⟩
abbrev main_call0_v2 : Ref sig .tc := ⟨.hbm, 56, rfl⟩
abbrev main_call0_v3 : Ref sig .tc := ⟨.hbm, 57, rfl⟩
abbrev main_call0_v4 : Ref sig .tc := ⟨.hbm, 58, rfl⟩
abbrev main_v32 : Ref sig .tc := ⟨.hbm, 59, rfl⟩
abbrev main_cst_10 : Ref sig .tc := ⟨.hbm, 60, rfl⟩
abbrev main_v33 : Ref sig .tc := ⟨.hbm, 61, rfl⟩
abbrev main_v34 : Ref sig .tc := ⟨.hbm, 62, rfl⟩
abbrev main_cst_11 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_12 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_13 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_cst_14 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_c : Ref sig .tc := ⟨.hbm, 127, rfl⟩
abbrev main_v95 : Ref sig .tc := ⟨.hbm, 128, rfl⟩
abbrev main_v96 : Ref sig .tc := ⟨.hbm, 129, rfl⟩
abbrev main_c_15 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_cst_16 : Ref sig .tc := ⟨.hbm, 134, rfl⟩
abbrev main_call1_v0 : Ref sig .tc := ⟨.hbm, 135, rfl⟩
abbrev main_call1_v1 : Ref sig .tc := ⟨.hbm, 136, rfl⟩
abbrev main_call1_v2 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_cst_17 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_cst_18 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩

abbrev nD : Nat := 1
abbrev τ : Topo := Topo.v7x

variable {F : FTy → Type} [FloatOps F]
-- ==== Proof.IdealProj.lean ====
/- The projection call of the idealized kernel program: what each grid point leaves in the output tile, the triple of its body,
   and the proof data of its pipeline at any contents `V` of the buffers it is entered from. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_qkv_rope` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S2048x2880 := Rect.unit (s := S2048x2880) ![0, 0] S2048x2880.size inb_S2048x2880_S2048x2880_0_0
abbrev r0_1 : Rect S2880x512 := Rect.unit (s := S2880x512) ![0, 0] S2880x512.size inb_S2880x512_S2880x512_0_0
abbrev r0_2 : Rect S1x512 := Rect.unit (s := S1x512) ![0, 0] S1x512.size inb_S1x512_S1x512_0_0
abbrev r0_3 : Rect S512x512 := Rect.unit (s := S512x512) ![0, 0] S512x512.size inb_S512x512_S512x512_0_0
abbrev r0_4 : Rect S2048x512 := Rect.unit (s := S2048x512) ![0, 0] S2048x512.size inb_S2048x512_S2048x512_0_0

/-! ## What the body leaves in each output window's buffer -/

/-- Window 6's staging buffer after the body, from the input windows' blocks: its 1 store as pieces, LAST
    FIRST (`View.canon`; the payloads are the skeleton's). -/
def out0_6 (i : grid0.Coords) (x0 : Vec F S2048x2880 .bf16) (x1 : Vec F S2880x512 .bf16) (x2 : Vec F S1x512 .f32) (x3 : Vec F S2048x512 .f32) (x4 : Vec F S2048x512 .f32) (x5 : Vec F S512x512 .bf16) : Vec F S2048x512 .bf16 :=
  View.canon [⟨r0_4, k0_pay1 i (View.ld x0 r0_0) (View.ld x1 r0_1) (View.ld x2 r0_2) (View.ld x5 r0_3) (View.ld x3 r0_4) (View.ld x4 r0_4)⟩]

/-- Its stores tile the buffer (checked by evaluation), so they cover it. -/
theorem cover0_6 (p0 : Vec F S2048x512 .bf16) (y : S2048x512.Idx) :
    ∃ pc ∈ ([⟨r0_4, p0⟩] : List (View.Piece (Elt F) S2048x512 .bf16)), y ∈ pc.1.set :=
  View.cover_of_tiled [⟨r0_4, p0⟩] S2048x512.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`*_eq_skeleton`), which `sl_exec` runs (Lib/Exec.lean), through every part call. -/
theorem sound_kernel0 (c : Dev nD) (E : Set ℕ) (i : grid0.Coords) (arg1 : Memref sig .tc .vmem S2048x2880 .bf16) (harg1 : arg1.IsWhole) (arg2 : Memref sig .tc .vmem S2880x512 .bf16) (harg2 : arg2.IsWhole) (arg3 : Memref sig .tc .vmem S1x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S512x512 .bf16) (harg6 : arg6.IsWhole) (arg7 : Memref sig .tc .vmem S2048x512 .bf16) (harg7 : arg7.IsWhole)
    (x0 : Vec F S2048x2880 .bf16) (x1 : Vec F S2880x512 .bf16) (x2 : Vec F S1x512 .f32) (x3 : Vec F S2048x512 .f32) (x4 : Vec F S2048x512 .f32) (x5 : Vec F S512x512 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 i x0 x1 x2 x3 x4 x5)) -∗ K ⟨⟩))
      ⊢ wp frame (wpE (defs₀ (F := F)) Variants.none c none) E (cc0_qkv_rope i arg1 harg1 arg2 harg2 arg3 harg3 arg4 harg4 arg5 harg5 arg6 harg6 arg7 harg7) K := by
  simp only [cc0_qkv_rope_eq_skeleton]; unfold cc0_qkv_rope_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The pipeline's proof data -/

/-- The proof data of pipeline 0 on core `c`: the arrays as the region finds them (`V`); after the body at
    point `t` each input's buffer at its block and each output's at `out0_W` of the input blocks; the invariant the
    class's (`ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (grid0.coords t) (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (grid0.coords t) (iblk0 V c 0 t) (iblk0 V c 1 t) (iblk0 V c 2 t) (iblk0 V c 3 t) (iblk0 V c 4 t) (iblk0 V c 5 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t` (`BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (`triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Run

end
-- ==== Proof.IdealAttn.lean ====
/- The attention call of the idealized kernel program: its two cases (first group of a block of queries: store; later groups: add),
   the triple of each, the running contents of the output block, and the proof data of its pipeline at any entry contents `V`. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc1_swa_attn_proj` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := k1_cond1 i = 1#1
/-- It holds at the points ≡ 0 (mod 8) — by arithmetic of the point. -/
theorem hcond1_0 : ∀ t : Fin cfg1.N, cond1_0 (grid1.coords t) ↔ t.val % 8 = 0 :=
  (fun t => by
    have ht : t.val < 32 := Nat.lt_of_lt_of_eq t.isLt N_1
    have e0 : (grid1.coords t 0).val = t.val / 8 % 4 := Pipeline.Grid.coords_val t 0 (by decide) rfl
    have e1 : (grid1.coords t 1).val = t.val / 1 % 8 := Pipeline.Grid.coords_val t 1 (by decide) rfl
    simp only [cond1_0, k1_cond1, e0, e1]
    word_cmp
   : ∀ t : Fin grid1.N, cond1_0 (grid1.coords t) ↔ t.val % 8 = 0)

/-- The condition of the body's `scf.if` 1 (`k1_h2`), from the grid coordinates (the skeleton's scalar
    chain substituted). -/
abbrev cond1_1 (i : grid1.Coords) : Prop := k1_cond2 i = 1#1
/-- It holds at the points whose coordinates have 1 ≤ i1 — by arithmetic of the point. -/
theorem hcond1_1 : ∀ t : Fin cfg1.N, cond1_1 (grid1.coords t) ↔ 1 ≤ t.val % 8 :=
  (fun t => by
    have ht : t.val < 32 := Nat.lt_of_lt_of_eq t.isLt N_1
    have e0 : (grid1.coords t 0).val = t.val / 8 % 4 := Pipeline.Grid.coords_val t 0 (by decide) rfl
    have e1 : (grid1.coords t 1).val = t.val / 1 % 8 := Pipeline.Grid.coords_val t 1 (by decide) rfl
    simp only [cond1_1, k1_cond2, e0, e1]
    word_cmp
   : ∀ t : Fin grid1.N, cond1_1 (grid1.coords t) ↔ 1 ≤ t.val % 8)

/-! ## Where the windows are idle (the printed configuration's table `Cfg.idle`) -/

/-- Window 0 is never idle (an input). -/
theorem liveAt1_0 : ∀ t : Fin cfg1.N, cfg1.idle 0 (grid1.coords t) = false := fun _ => rfl
/-- Window 1 is never idle (an input). -/
theorem liveAt1_1 : ∀ t : Fin cfg1.N, cfg1.idle 1 (grid1.coords t) = false := fun _ => rfl
/-- Window 2 is never idle (an input). -/
theorem liveAt1_2 : ∀ t : Fin cfg1.N, cfg1.idle 2 (grid1.coords t) = false := fun _ => rfl
/-- Window 3 is never idle (an input). -/
theorem liveAt1_3 : ∀ t : Fin cfg1.N, cfg1.idle 3 (grid1.coords t) = false := fun _ => rfl
/-- Window 4 is never idle (an input). -/
theorem liveAt1_4 : ∀ t : Fin cfg1.N, cfg1.idle 4 (grid1.coords t) = false := fun _ => rfl
/-- Window 5 is never idle (an input). -/
theorem liveAt1_5 : ∀ t : Fin cfg1.N, cfg1.idle 5 (grid1.coords t) = false := fun _ => rfl
/-- Window 6 is never idle (an input). -/
theorem liveAt1_6 : ∀ t : Fin cfg1.N, cfg1.idle 6 (grid1.coords t) = false := fun _ => rfl
/-- Whether output 7's buffer is FRESH at each position `1 ‥ N` — holds nothing the body stored since the region's entry or the
    last write-back (written back at the point before, or idle there and fresh before it) —, as a bitmask the classifier
    computed, bit `n` for position `n + 1`; position 0 is fresh. `freshTab1_7_step` checks it against the configuration's own
    step point by point and `Cfg.fresh_tab` makes it `Cfg.fresh` (`fresh1_7_eq`). -/
def freshTab1_7 : ℕ → Bool
  | 0 => true
  | n + 1 => (0x80808080 : ℕ).testBit n
theorem freshTab1_7_step : ∀ t : Fin cfg1.N,
    freshTab1_7 (t.val + 1) = ((cfg1.win 7).flush t || (cfg1.idle 7 (cfg1.grid.coords t) && freshTab1_7 t.val)) := by decide +kernel
theorem fresh1_7_eq (t : Fin cfg1.N) : cfg1.fresh 7 t.val = freshTab1_7 t.val :=
  Pipeline.Cfg.fresh_tab cfg1 7 freshTab1_7 rfl freshTab1_7_step t.val (Nat.le_of_lt t.isLt)
/-- At the points of case A the printed configuration (`Cfg.idle`) calls output 7 live: the case stores into it. -/
theorem liveAt1_7_A : ∀ t : Fin cfg1.N, cond1_0 (grid1.coords t) → ¬cond1_1 (grid1.coords t) → cfg1.idle 7 (grid1.coords t) = false := by decide +kernel
/-- At the points of case B the printed configuration (`Cfg.idle`) calls output 7 live: the case stores into it. -/
theorem liveAt1_7_B : ∀ t : Fin cfg1.N, ¬cond1_0 (grid1.coords t) → cond1_1 (grid1.coords t) → cfg1.idle 7 (grid1.coords t) = false := by decide +kernel
/-- At the points of case B, which keeps output 7's prior contents (reads it before covering, or covers it in part), the
    window's buffer is not FRESH: something was stored into it since the region's entry or its last write-back, idle points
    between or not (`Cfg.fresh`, by the table `freshTab1_7`). -/
theorem notFresh1_7_B : ∀ t : Fin cfg1.N, ¬cond1_0 (grid1.coords t) → cond1_1 (grid1.coords t) → cfg1.fresh 7 t.val = false := by
  intro t; rw [fresh1_7_eq t]; revert t; decide +kernel

/-! ## The kernel body on any staging memrefs: a subtype the run finds -/

/-- One staging buffer of output window 7, through which its contents are stated (`View.read_writes_of_cover`: the
    choice does not matter). -/
abbrev VO1_7 : View sig .tc .vmem S512x2880 .f32 := (Memref.whole cc1_stg7_0 : Memref sig .tc .vmem S512x2880 .f32).view
/-- Each window's current staging memref at point `t`, spelled as the pipeline passes it (`bodyAt1`), and its wholeness. -/
abbrev ms1_0 (t : Fin cfg1.N) : Memref sig .tc .vmem S512x8x1x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1x1x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1x1x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2x256x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S4096x2880 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x2880 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S512x2880 .f32 := win1_7.stage (cfg1.slots t 7)
abbrev hs1_7 (t : Fin cfg1.N) : (ms1_7 t).IsWhole := hstage1_7 ((cfg1.slots t 7).cast nbuf1_7)
/-- The scratch operands: whole scoped buffers of the kernel's own, passed beside the windows. -/
abbrev scM1_0 : Memref sig .tc .vmem S512x512 .bf16 := Memref.whole cc1_scratch0

/-- The frame kit's invariant with the scratch operands as memrefs owned at some contents (`scopedRest1_eq`,
    `owns_whole`): what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ d, owns (c : Thread nD τ) scM1_0 fullShare d)) ∗ (∃ r, prngReg c r)) := by
  unfold Pipeline.ΦA; rw [scopedRest1_eq]; simp only [scM1_0, owns_whole]; try rfl

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 8, 16, 24), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg2 : Memref sig .tc .vmem S512x8x1x64 .bf16) (harg2 : arg2.IsWhole) (arg3 : Memref sig .tc .vmem S512x1x1x64 .bf16) (harg3 : arg3.IsWhole) (arg4 : Memref sig .tc .vmem S512x1x1x64 .bf16) (harg4 : arg4.IsWhole) (arg5 : Memref sig .tc .vmem S2x256x1024 .f32) (harg5 : arg5.IsWhole) (arg6 : Memref sig .tc .vmem S1x1x1024 .f32) (harg6 : arg6.IsWhole) (arg7 : Memref sig .tc .vmem S4096x2880 .bf16) (harg7 : arg7.IsWhole) (arg8 : Memref sig .tc .vmem S1x2880 .f32) (harg8 : arg8.IsWhole) (arg9 : Memref sig .tc .vmem S512x2880 .f32) (harg9 : arg9.IsWhole) (arg10 : Memref sig .tc .vmem S512x512 .bf16) (harg10 : arg10.IsWhole) (hc0 : cond1_0 i) (hc1 : ¬cond1_1 i)
    (x0 : Vec F S512x8x1x64 .bf16) (x1 : Vec F S512x1x1x64 .bf16) (x2 : Vec F S512x1x1x64 .bf16) (x3 : Vec F S2x256x1024 .f32) (x4 : Vec F S1x1x1024 .f32) (x5 : Vec F S4096x2880 .bf16) (x6 : Vec F S1x2880 .f32) :
    Σ' (L7 : List (View.Piece (Elt F) S512x2880 .f32)), { LT0 : List (View.Piece (Elt F) S512x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LT0)) -∗ K ⟨⟩))
          ⊢ wp frame (wpE (defs₀ (F := F)) Variants.none c none) E (cc1_swa_attn_proj i arg2 harg2 arg3 harg3 arg4 harg4 arg5 harg5 arg6 harg6 arg7 harg7 arg8 harg8 arg9 harg9 arg10 harg10) K } := by
  refine ⟨?_, ?_, fun E K => ?run⟩
  case run =>
    simp only [cc1_swa_attn_proj_eq_skeleton]; unfold cc1_swa_attn_proj_skel
    simp only [k1_part1_eq_skeleton, k1_part2_eq_skeleton, k1_part3_eq_skeleton, k1_part4_eq_skeleton, k1_part5_eq_skeleton, k1_part6_eq_skeleton, k1_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact HS0

/-- Case A's pieces for output 7 tile its block (1 store of `S512x2880`, checked by the kernel's evaluation: `Piece.tiledL`, linear in the pieces, through a loop's `@[irreducible]` trip theorem too), so they cover it. -/
theorem cover1_A_7 (c : Dev nD) (i : grid1.Coords) (arg2 : Memref sig .tc .vmem S512x8x1x64 .bf16) (harg2 : arg2.IsWhole) (arg3 : Memref sig .tc .vmem S512x1x1x64 .bf16) (harg3 : arg3.IsWhole) (arg4 : Memref sig .tc .vmem S512x1x1x64 .bf16) (harg4 : arg4.IsWhole) (arg5 : Memref sig .tc .vmem S2x256x1024 .f32) (harg5 : arg5.IsWhole) (arg6 : Memref sig .tc .vmem S1x1x1024 .f32) (harg6 : arg6.IsWhole) (arg7 : Memref sig .tc .vmem S4096x2880 .bf16) (harg7 : arg7.IsWhole) (arg8 : Memref sig .tc .vmem S1x2880 .f32) (harg8 : arg8.IsWhole) (arg9 : Memref sig .tc .vmem S512x2880 .f32) (harg9 : arg9.IsWhole) (arg10 : Memref sig .tc .vmem S512x512 .bf16) (harg10 : arg10.IsWhole) (hc0 : cond1_0 i) (hc1 : ¬cond1_1 i)
    (x0 : Vec F S512x8x1x64 .bf16) (x1 : Vec F S512x1x1x64 .bf16) (x2 : Vec F S512x1x1x64 .bf16) (x3 : Vec F S2x256x1024 .f32) (x4 : Vec F S1x1x1024 .f32) (x5 : Vec F S4096x2880 .bf16) (x6 : Vec F S1x2880 .f32) (y : S512x2880.Idx) :
    ∃ pc ∈ (kernelRun1_A c i arg2 harg2 arg3 harg3 arg4 harg4 arg5 harg5 arg6 harg6 arg7 harg7 arg8 harg8 arg9 harg9 arg10 harg10 hc0 hc1 x0 x1 x2 x3 x4 x5 x6).1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2 x3 x4 x5 x6).1 S512x2880.size (by sl_kernel_rfl) y

/-- What case A leaves in output 7's staging buffer: its pieces read back over junk. -/
def out1_A_7 (c : Dev nD) (i : grid1.Coords) (arg2 : Memref sig .tc .vmem S512x8x1x64 .bf16) (harg2 : arg2.IsWhole) (arg3 : Memref sig .tc .vmem S512x1x1x64 .bf16) (harg3 : arg3.IsWhole) (arg4 : Memref sig .tc .vmem S512x1x1x64 .bf16) (harg4 : arg4.IsWhole) (arg5 : Memref sig .tc .vmem S2x256x1024 .f32) (harg5 : arg5.IsWhole) (arg6 : Memref sig .tc .vmem S1x1x1024 .f32) (harg6 : arg6.IsWhole) (arg7 : Memref sig .tc .vmem S4096x2880 .bf16) (harg7 : arg7.IsWhole) (arg8 : Memref sig .tc .vmem S1x2880 .f32) (harg8 : arg8.IsWhole) (arg9 : Memref sig .tc .vmem S512x2880 .f32) (harg9 : arg9.IsWhole) (arg10 : Memref sig .tc .vmem S512x512 .bf16) (harg10 : arg10.IsWhole) (hc0 : cond1_0 i) (hc1 : ¬cond1_1 i)
    (x0 : Vec F S512x8x1x64 .bf16) (x1 : Vec F S512x1x1x64 .bf16) (x2 : Vec F S512x1x1x64 .bf16) (x3 : Vec F S2x256x1024 .f32) (x4 : Vec F S1x1x1024 .f32) (x5 : Vec F S4096x2880 .bf16) (x6 : Vec F S1x2880 .f32) : Vec F S512x2880 .f32 :=
  VO1_7.read (Elt F) (VO1_7.writes (Elt F) VO1_7.junk (kernelRun1_A c i arg2 harg2 arg3 harg3 arg4 harg4 arg5 harg5 arg6 harg6 arg7 harg7 arg8 harg8 arg9 harg9 arg10 harg10 hc0 hc1 x0 x1 x2 x3 x4 x5 x6).1)

-- (the run's proof term is large: the definition's epilogue — `abstractNestedProofs` — walks it past the default budget)
set_option maxHeartbeats 1000000 in
/-- What the body's stores leave in each output's staging memref, as pieces (last first) IN CASE B (`scf.if` 0 not taken, `scf.if` 1 taken: points 1, 2, … 31: 28 of 32), WITH the
    proof that on whole staging memrefs — the inputs' at their contents, the outputs it reads before covering (7) at their running contents `xo·`, the other outputs' at
    anything, the scratch buffers at anything, the body runs to the continuation holding the inputs' as they were,
    a scratch it stored into and does not carry with its pieces (`LT·`) written over some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg2 : Memref sig .tc .vmem S512x8x1x64 .bf16) (harg2 : arg2.IsWhole) (arg3 : Memref sig .tc .vmem S512x1x1x64 .bf16) (harg3 : arg3.IsWhole) (arg4 : Memref sig .tc .vmem S512x1x1x64 .bf16) (harg4 : arg4.IsWhole) (arg5 : Memref sig .tc .vmem S2x256x1024 .f32) (harg5 : arg5.IsWhole) (arg6 : Memref sig .tc .vmem S1x1x1024 .f32) (harg6 : arg6.IsWhole) (arg7 : Memref sig .tc .vmem S4096x2880 .bf16) (harg7 : arg7.IsWhole) (arg8 : Memref sig .tc .vmem S1x2880 .f32) (harg8 : arg8.IsWhole) (arg9 : Memref sig .tc .vmem S512x2880 .f32) (harg9 : arg9.IsWhole) (arg10 : Memref sig .tc .vmem S512x512 .bf16) (harg10 : arg10.IsWhole) (hc0 : ¬cond1_0 i) (hc1 : cond1_1 i)
    (x0 : Vec F S512x8x1x64 .bf16) (x1 : Vec F S512x1x1x64 .bf16) (x2 : Vec F S512x1x1x64 .bf16) (x3 : Vec F S2x256x1024 .f32) (x4 : Vec F S1x1x1024 .f32) (x5 : Vec F S4096x2880 .bf16) (x6 : Vec F S1x2880 .f32) (xo7 : Vec F S512x2880 .f32) :
    Σ' (L7 : List (View.Piece (Elt F) S512x2880 .f32)), { LT0 : List (View.Piece (Elt F) S512x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo7 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LT0)) -∗ K ⟨⟩))
          ⊢ wp frame (wpE (defs₀ (F := F)) Variants.none c none) E (cc1_swa_attn_proj i arg2 harg2 arg3 harg3 arg4 harg4 arg5 harg5 arg6 harg6 arg7 harg7 arg8 harg8 arg9 harg9 arg10 harg10) K } := by
  refine ⟨?_, ?_, fun E K => ?run⟩
  case run =>
    simp only [cc1_swa_attn_proj_eq_skeleton]; unfold cc1_swa_attn_proj_skel
    simp only [k1_part1_eq_skeleton, k1_part2_eq_skeleton, k1_part3_eq_skeleton, k1_part4_eq_skeleton, k1_part5_eq_skeleton, k1_part6_eq_skeleton, k1_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact HS0

/-- Case B's pieces for output 7 tile its block (1 store of `S512x2880`, checked by the kernel's evaluation: `Piece.tiledL`, linear in the pieces, through a loop's `@[irreducible]` trip theorem too), so they cover it. -/
theorem cover1_B_7 (c : Dev nD) (i : grid1.Coords) (arg2 : Memref sig .tc .vmem S512x8x1x64 .bf16) (harg2 : arg2.IsWhole) (arg3 : Memref sig .tc .vmem S512x1x1x64 .bf16) (harg3 : arg3.IsWhole) (arg4 : Memref sig .tc .vmem S512x1x1x64 .bf16) (harg4 : arg4.IsWhole) (arg5 : Memref sig .tc .vmem S2x256x1024 .f32) (harg5 : arg5.IsWhole) (arg6 : Memref sig .tc .vmem S1x1x1024 .f32) (harg6 : arg6.IsWhole) (arg7 : Memref sig .tc .vmem S4096x2880 .bf16) (harg7 : arg7.IsWhole) (arg8 : Memref sig .tc .vmem S1x2880 .f32) (harg8 : arg8.IsWhole) (arg9 : Memref sig .tc .vmem S512x2880 .f32) (harg9 : arg9.IsWhole) (arg10 : Memref sig .tc .vmem S512x512 .bf16) (harg10 : arg10.IsWhole) (hc0 : ¬cond1_0 i) (hc1 : cond1_1 i)
    (x0 : Vec F S512x8x1x64 .bf16) (x1 : Vec F S512x1x1x64 .bf16) (x2 : Vec F S512x1x1x64 .bf16) (x3 : Vec F S2x256x1024 .f32) (x4 : Vec F S1x1x1024 .f32) (x5 : Vec F S4096x2880 .bf16) (x6 : Vec F S1x2880 .f32) (xo7 : Vec F S512x2880 .f32) (y : S512x2880.Idx) :
    ∃ pc ∈ (kernelRun1_B c i arg2 harg2 arg3 harg3 arg4 harg4 arg5 harg5 arg6 harg6 arg7 harg7 arg8 harg8 arg9 harg9 arg10 harg10 hc0 hc1 x0 x1 x2 x3 x4 x5 x6 xo7).1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 x3 x4 x5 x6 xo7).1 S512x2880.size (by sl_kernel_rfl) y

/-- What case B leaves in output 7's staging buffer: its pieces read back over junk. -/
def out1_B_7 (c : Dev nD) (i : grid1.Coords) (arg2 : Memref sig .tc .vmem S512x8x1x64 .bf16) (harg2 : arg2.IsWhole) (arg3 : Memref sig .tc .vmem S512x1x1x64 .bf16) (harg3 : arg3.IsWhole) (arg4 : Memref sig .tc .vmem S512x1x1x64 .bf16) (harg4 : arg4.IsWhole) (arg5 : Memref sig .tc .vmem S2x256x1024 .f32) (harg5 : arg5.IsWhole) (arg6 : Memref sig .tc .vmem S1x1x1024 .f32) (harg6 : arg6.IsWhole) (arg7 : Memref sig .tc .vmem S4096x2880 .bf16) (harg7 : arg7.IsWhole) (arg8 : Memref sig .tc .vmem S1x2880 .f32) (harg8 : arg8.IsWhole) (arg9 : Memref sig .tc .vmem S512x2880 .f32) (harg9 : arg9.IsWhole) (arg10 : Memref sig .tc .vmem S512x512 .bf16) (harg10 : arg10.IsWhole) (hc0 : ¬cond1_0 i) (hc1 : cond1_1 i)
    (x0 : Vec F S512x8x1x64 .bf16) (x1 : Vec F S512x1x1x64 .bf16) (x2 : Vec F S512x1x1x64 .bf16) (x3 : Vec F S2x256x1024 .f32) (x4 : Vec F S1x1x1024 .f32) (x5 : Vec F S4096x2880 .bf16) (x6 : Vec F S1x2880 .f32) (xo7 : Vec F S512x2880 .f32) : Vec F S512x2880 .f32 :=
  VO1_7.read (Elt F) (VO1_7.writes (Elt F) VO1_7.junk (kernelRun1_B c i arg2 harg2 arg3 harg3 arg4 harg4 arg5 harg5 arg6 harg6 arg7 harg7 arg8 harg8 arg9 harg9 arg10 harg10 hc0 hc1 x0 x1 x2 x3 x4 x5 x6 xo7).1)

/-! ## What the outputs hold after each point -/

/-- THE ACCUMULATION. What the outputs' staging buffers hold after the body at position `n`:
    the case the closed forms select at `n`, run at the point's memrefs and input blocks, an output it reads before covering
    at what this leaves at `n - 1` (its buffer is not written back between: `before1_W_κ`); an output it leaves idle whose contents another case keeps stays
    what this leaves at `n - 1`, carried. An assignment of the conditions no point meets is no case (`False.elim`). -/
def outsAt1 (c : Dev nD) : (n : ℕ) → n < cfg1.N → Vec F S512x2880 .f32
  | 0, hn => out1_A_7 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩)
  | n + 1, hn =>
    if h0 : (n + 1) % 8 = 0 then
      if h1 : 1 ≤ (n + 1) % 8 then
        False.elim (by have hN : n + 1 < 32 := lt_of_lt_of_eq hn (show cfg1.N = 32 from N_1); omega)
      else
        out1_A_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩)
    else
      if h1 : 1 ≤ (n + 1) % 8 then
        out1_B_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn))
      else
        False.elim (by have hN : n + 1 < 32 := lt_of_lt_of_eq hn (show cfg1.N = 32 from N_1); omega)

/-- `outsAt1` at a point of case A: that case's contents. -/
theorem outsAt1_A (c : Dev nD) (t : Fin cfg1.N) (h0 : t.val % 8 = 0) (h1 : ¬1 ≤ t.val % 8) :
    outsAt1 V c t.val t.isLt = out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 8 = 0) (h1 : 1 ≤ t.val % 8) :
    outsAt1 V c t.val t.isLt = out1_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of pipeline 1 on core `c`: the arrays as the region finds them (`V`); after the body at
    point `t` each input's buffer at its block and the outputs' at `outsAt1`; the invariant the class's
    (`ΦA`: the scoped rest and the generator register); nothing owed; each input's share of its array
    (`Pipeline.shareOf`: the full share of an array several windows stage, dealt among them). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt)
  Φ _ := Pipeline.ΦA spec1 c
  q w := Pipeline.shareOf spec1 w
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (outsAt1 V c t.val t.isLt) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-- Output 7's contents CARRY through the points that leave it idle: at such a point, its buffer not fresh, the proof data's
    `after` is the point before's (the case there stores nothing into the window and its term says so; a case that stores
    into it is not idle there by `liveAt1_7_κ`) — the hypothesis of `Dat.before_out_traj`. -/
theorem hcarry1_7 (c : Dev nD) : ∀ (t : Fin cfg1.N) (_ : t.val ≠ 0), cfg1.idle 7 (grid1.coords t) = true → cfg1.fresh 7 t.val = false →
    (dat1 V c).after 7 t = (dat1 V c).after 7 ⟨t.val - 1, by omega⟩ := by
  intro t _ hi _
  have hN : t.val < 32 := lt_of_lt_of_eq t.isLt (show cfg1.N = 32 from N_1)
  rw [after1_7, after1_7]
  by_cases h0 : t.val % 8 = 0
  · by_cases h1 : 1 ≤ t.val % 8
    · exfalso; omega
    · rw [liveAt1_7_A t ((hcond1_0 t).mpr h0) (fun h => h1 ((hcond1_1 t).mp h))] at hi
      exact absurd hi Bool.false_ne_true
  · by_cases h1 : 1 ≤ t.val % 8
    · rw [liveAt1_7_B t (fun h => h0 ((hcond1_0 t).mp h)) ((hcond1_1 t).mpr h1)] at hi
      exact absurd hi Bool.false_ne_true
    · exfalso; omega
/-- At a point of case B output 7's current staging buffer holds what the point before left: the buffer is not fresh
    there (`notFresh1_7_B`: stored into since the region's entry or the last write-back, carried through the points that
    leave it idle by `hcarry1_7`; `Dat.before_out_traj`). -/
theorem before1_7_B (c : Dev nD) (t : Fin cfg1.N) (h0 : ¬t.val % 8 = 0) (h1 : 1 ≤ t.val % 8) (d) :
    (dat1 V c).before 7 t d = (outsAt1 V c (t.val - 1) (Nat.lt_of_le_of_lt (Nat.sub_le _ _) t.isLt)) := by
  rw [Dat.before_out_traj _ 7 rfl (fun _ _ => rfl) (hcarry1_7 V c) t.val t rfl d,
    if_neg (by rw [notFresh1_7_B t (fun h => h0 ((hcond1_0 t).mp h)) ((hcond1_1 t).mpr h1)]; exact Bool.false_ne_true)]
  dsimp only [dat1]

/-! ## The body obligation, at a generic point -/

/-- What the body is called with at point `t` (`BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 1600000 in
/-- The body at any point: the inputs' memrefs hold their blocks (`before1_W`); the closed forms say which case the point is in (`by_cases`), an output the case reads before covering holds what the point before left (`before1_W_κ`); so the
    run applies; the invariant hands the body its scratch buffers at some contents (and the generator register) and takes them back at some contents (`PhiA_eq`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl]
  rw [show (dat1 V c).Φ t.castSucc = Pipeline.ΦA spec1 c from rfl, PhiA1_eq]
  have hN : t.val < 32 := lt_of_lt_of_eq t.isLt (show cfg1.N = 32 from N_1)
  by_cases h0 : t.val % 8 = 0
  · by_cases h1 : 1 ≤ t.val % 8
    · exfalso; omega
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [show (dat1 V c).leavesExact 5 t = owns (c : Thread nD τ) (ms1_5 t) fullShare ((dat1 V c).after 5 t) from by
      unfold Dat.leavesExact; rw [liveAt1_5 t], after1_5]
      rw [show (dat1 V c).leavesExact 6 t = owns (c : Thread nD τ) (ms1_6 t) fullShare ((dat1 V c).after 6 t) from by
      unfold Dat.leavesExact; rw [liveAt1_6 t], after1_6]
      rw [show (dat1 V c).leavesExact 7 t = owns (c : Thread nD τ) (ms1_7 t) fullShare ((dat1 V c).after 7 t) from by
      unfold Dat.leavesExact; rw [liveAt1_7_A t ((hcond1_0 t).mpr h0) (fun h => h1 ((hcond1_1 t).mp h))], after1_7]
      rw [outsAt1_A V c t h0 h1]
      unfold out1_A_7
      iintro ⟨⟨⟨HR0, HR1, HR2, HR3, HR4, HR5, HR6, HR7, HR8, HR9, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      iintro ⟨H0, H1, H2, H3, H4, H5, H6, ⟨%e7, H7⟩, ⟨%fT0, HS0⟩⟩
      isplitl [HR0 HR1 HR2 HR3 HR4 HR5 HR6 HR7 HR8 HR9 HS0 Hg]
      · isplitl [HR0 HR1 HR2 HR3 HR4 HR5 HR6 HR7 HR8 HR9 HS0]
        · isplitl [HR0]
          · iexact HR0
          isplitl [HR1]
          · iexact HR1
          isplitl [HR2]
          · iexact HR2
          isplitl [HR3]
          · iexact HR3
          isplitl [HR4]
          · iexact HR4
          isplitl [HR5]
          · iexact HR5
          isplitl [HR6]
          · iexact HR6
          isplitl [HR7]
          · iexact HR7
          isplitl [HR8]
          · iexact HR8
          isplitl [HR9]
          · iexact HR9
          iexists _; unfold owns; iexists _; isplitr
          swap; · iexact HS0
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover1_A_7 c _ _ _ _ _ _ _ _ _ _ _ _ _ _ _ _ _ _ _ _ _ _ _ _ _ _ _ _)
  · by_cases h1 : 1 ≤ t.val % 8
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [show (dat1 V c).leavesExact 5 t = owns (c : Thread nD τ) (ms1_5 t) fullShare ((dat1 V c).after 5 t) from by
      unfold Dat.leavesExact; rw [liveAt1_5 t], after1_5]
      rw [show (dat1 V c).leavesExact 6 t = owns (c : Thread nD τ) (ms1_6 t) fullShare ((dat1 V c).after 6 t) from by
      unfold Dat.leavesExact; rw [liveAt1_6 t], after1_6]
      rw [show (dat1 V c).leavesExact 7 t = owns (c : Thread nD τ) (ms1_7 t) fullShare ((dat1 V c).after 7 t) from by
      unfold Dat.leavesExact; rw [liveAt1_7_B t (fun h => h0 ((hcond1_0 t).mp h)) ((hcond1_1 t).mpr h1)], after1_7]
      rw [outsAt1_B V c t h0 h1]
      simp only [before1_7_B V c t h0 h1]
      unfold out1_B_7
      iintro ⟨⟨⟨HR0, HR1, HR2, HR3, HR4, HR5, HR6, HR7, HR8, HR9, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_B c (grid1.coords t) _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      iintro ⟨H0, H1, H2, H3, H4, H5, H6, ⟨%e7, H7⟩, ⟨%fT0, HS0⟩⟩
      isplitl [HR0 HR1 HR2 HR3 HR4 HR5 HR6 HR7 HR8 HR9 HS0 Hg]
      · isplitl [HR0 HR1 HR2 HR3 HR4 HR5 HR6 HR7 HR8 HR9 HS0]
        · isplitl [HR0]
          · iexact HR0
          isplitl [HR1]
          · iexact HR1
          isplitl [HR2]
          · iexact HR2
          isplitl [HR3]
          · iexact HR3
          isplitl [HR4]
          · iexact HR4
          isplitl [HR5]
          · iexact HR5
          isplitl [HR6]
          · iexact HR6
          isplitl [HR7]
          · iexact HR7
          isplitl [HR8]
          · iexact HR8
          isplitl [HR9]
          · iexact HR9
          iexists _; unfold owns; iexists _; isplitr
          swap; · iexact HS0
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover1_B_7 c _ _ _ _ _ _ _ _ _ _ _ _ _ _ _ _ _ _ _ _ _ _ _ _ _ _ _ _ _)
    · exfalso; omega

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (`triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Run

end
-- ==== Proof.IdealRun.lean ====
/- The run of the idealized kernel program: the contents of every buffer at each boundary between the stretches of host operations and the
   two calls, the calls as segments, the launch, and from it the frame and the run with the result array named. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp
public import proofs.«01_k».proof.Proof.IdealProj
public import proofs.«01_k».proof.Proof.IdealAttn

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! # THE RUN: @main's segments from the launch to the return (`θ_run_regions_kit`) -/

/-- @main's argument arrays, as TensorCore references: what the frame claim reads back. -/
abbrev argRefs : List (Ref sig .tc) := [main_arg0, main_arg1, main_arg2, main_arg3, main_arg4, main_arg5, main_arg6, main_arg7, main_arg8, main_arg9, main_arg10]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_cst, main_v1, main_v2, main_v3, main_v4, main_v5, main_v6, main_v7, main_v8, main_v9, main_cst_0, main_v10, main_v11, main_v12, main_v13, main_v14, main_v15, main_v16, main_cst_1, main_v17, main_v18, main_cst_2, main_v19, main_v20, main_cst_3, main_v21, main_v22, main_cst_4, main_v23, main_v24, main_cst_5, main_v25, main_v26, main_cst_6, main_v27, main_v28, main_cst_7, main_v29, main_v30, main_v31, main_cst_8, main_v32, main_v33, main_cst_9, main_v34, main_v35, main_cst_10, main_cst_11]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps0_1` allocates a buffer. -/
theorem hostOps0_1_fresh : (hostOps0_1 : List (HloOp τ sig (Elt F))).Forall fun op => op.fresh = ∅ := by
  simp only [List.Forall]; repeat' constructor
/-- The reference each operation of `hostOps0_1` writes, in order. -/
abbrev hostOps0_1_W : List (Ref sig .tc) := [main_call0_v0, main_call0_v1, main_call0_v2, main_call0_v3, main_call0_v4, main_v36]
theorem hostOps0_1_writes : (hostOps0_1 : List (HloOp τ sig (Elt F))).Forall fun op => op.writes ⊆ (hostOps0_1_W.map (Proc.devRef (τ := τ) .tc)).toFinset :=
  StableHlo.forall_writes_sub_of_map rfl
/-- `hostOps0_1` writes none of the argument arrays (checked: each argument against each reference it writes). -/
theorem hostOps0_1_args : ∀ a ∈ argRefs, a ∉ hostOps0_1_W := ListAll.forall_mem_of_all_decide (by decide +kernel)

/-- No operation of `hostOps0_2` allocates a buffer. -/
theorem hostOps0_2_fresh : (hostOps0_2 : List (HloOp τ sig (Elt F))).Forall fun op => op.fresh = ∅ := by
  simp only [List.Forall]; repeat' constructor
/-- The reference each operation of `hostOps0_2` writes, in order. -/
abbrev hostOps0_2_W : List (Ref sig .tc) := [main_cst_12, main_v37, main_v38, main_cst_13, main_v39, main_v40, main_v41, main_v42, main_v43, main_v44, main_v45, main_v46, main_v47, main_v48, main_v49, main_v50, main_cst_14, main_v51, main_v52, main_v53, main_cst_15, main_v54, main_v55, main_v56, main_v57, main_v58, main_v59, main_v60, main_v61, main_v62, main_v63, main_v64, main_v65, main_v66, main_c]
theorem hostOps0_2_writes : (hostOps0_2 : List (HloOp τ sig (Elt F))).Forall fun op => op.writes ⊆ (hostOps0_2_W.map (Proc.devRef (τ := τ) .tc)).toFinset :=
  StableHlo.forall_writes_sub_of_map rfl
/-- `hostOps0_2` writes none of the argument arrays (checked: each argument against each reference it writes). -/
theorem hostOps0_2_args : ∀ a ∈ argRefs, a ∉ hostOps0_2_W := ListAll.forall_mem_of_all_decide (by decide +kernel)

/-- No operation of `hostOps0_3` allocates a buffer. -/
theorem hostOps0_3_fresh : (hostOps0_3 : List (HloOp τ sig (Elt F))).Forall fun op => op.fresh = ∅ := by
  simp only [List.Forall]; repeat' constructor
/-- The reference each operation of `hostOps0_3` writes, in order. -/
abbrev hostOps0_3_W : List (Ref sig .tc) := [main_call1_v0, main_call1_v1, main_call1_v2, main_call1_v3, main_call1_v4, main_call1_v5, main_call1_v6, main_call1_v7, main_call1_v8, main_call1_c, main_call1_v9, main_call1_v10, main_call1_v11, main_call1_c_0, main_call1_v12, main_call1_v13, main_v67]
theorem hostOps0_3_writes : (hostOps0_3 : List (HloOp τ sig (Elt F))).Forall fun op => op.writes ⊆ (hostOps0_3_W.map (Proc.devRef (τ := τ) .tc)).toFinset :=
  StableHlo.forall_writes_sub_of_map rfl
/-- `hostOps0_3` writes none of the argument arrays (checked: each argument against each reference it writes). -/
theorem hostOps0_3_args : ∀ a ∈ argRefs, a ∉ hostOps0_3_W := ListAll.forall_mem_of_all_decide (by decide +kernel)

/-- No operation of `hostOps0_4` allocates a buffer. -/
theorem hostOps0_4_fresh : (hostOps0_4 : List (HloOp τ sig (Elt F))).Forall fun op => op.fresh = ∅ := by
  simp only [List.Forall]; repeat' constructor
/-- The reference each operation of `hostOps0_4` writes, in order. -/
abbrev hostOps0_4_W : List (Ref sig .tc) := [main_v68, main_c_16]
theorem hostOps0_4_writes : (hostOps0_4 : List (HloOp τ sig (Elt F))).Forall fun op => op.writes ⊆ (hostOps0_4_W.map (Proc.devRef (τ := τ) .tc)).toFinset :=
  StableHlo.forall_writes_sub_of_map rfl
/-- `hostOps0_4` writes none of the argument arrays (checked: each argument against each reference it writes). -/
theorem hostOps0_4_args : ∀ a ∈ argRefs, a ∉ hostOps0_4_W := ListAll.forall_mem_of_all_decide (by decide +kernel)

/-- No operation of `hostOps0_5` allocates a buffer. -/
theorem hostOps0_5_fresh : (hostOps0_5 : List (HloOp τ sig (Elt F))).Forall fun op => op.fresh = ∅ := by
  simp only [List.Forall]; repeat' constructor
/-- The reference each operation of `hostOps0_5` writes, in order. -/
abbrev hostOps0_5_W : List (Ref sig .tc) := [main_call2_v0, main_call2_v1, main_call2_v2, main_call2_v3, main_call2_v4, main_call2_v5, main_call2_v6, main_call2_v7, main_call2_v8, main_call2_c, main_call2_v9, main_call2_v10, main_call2_v11, main_call2_c_0, main_call2_v12, main_call2_v13, main_v69]
theorem hostOps0_5_writes : (hostOps0_5 : List (HloOp τ sig (Elt F))).Forall fun op => op.writes ⊆ (hostOps0_5_W.map (Proc.devRef (τ := τ) .tc)).toFinset :=
  StableHlo.forall_writes_sub_of_map rfl
/-- `hostOps0_5` writes none of the argument arrays (checked: each argument against each reference it writes). -/
theorem hostOps0_5_args : ∀ a ∈ argRefs, a ∉ hostOps0_5_W := ListAll.forall_mem_of_all_decide (by decide +kernel)

/-- No operation of `hostOps0_6` allocates a buffer. -/
theorem hostOps0_6_fresh : (hostOps0_6 : List (HloOp τ sig (Elt F))).Forall fun op => op.fresh = ∅ := by
  simp only [List.Forall]; repeat' constructor
/-- The reference each operation of `hostOps0_6` writes, in order. -/
abbrev hostOps0_6_W : List (Ref sig .tc) := [main_v70, main_v71, main_v72, main_v73, main_c_17]
theorem hostOps0_6_writes : (hostOps0_6 : List (HloOp τ sig (Elt F))).Forall fun op => op.writes ⊆ (hostOps0_6_W.map (Proc.devRef (τ := τ) .tc)).toFinset :=
  StableHlo.forall_writes_sub_of_map rfl
/-- `hostOps0_6` writes none of the argument arrays (checked: each argument against each reference it writes). -/
theorem hostOps0_6_args : ∀ a ∈ argRefs, a ∉ hostOps0_6_W := ListAll.forall_mem_of_all_decide (by decide +kernel)

/-- No operation of `hostOps0_7` allocates a buffer. -/
theorem hostOps0_7_fresh : (hostOps0_7 : List (HloOp τ sig (Elt F))).Forall fun op => op.fresh = ∅ := by
  simp only [List.Forall]; repeat' constructor
/-- The reference each operation of `hostOps0_7` writes, in order. -/
abbrev hostOps0_7_W : List (Ref sig .tc) := [main_call3_v0, main_call3_c, main_call3_v1, main_call3_c_0, main_call3_v2, main_call3_v3, main_call3_v4, main_call3_c_1, main_call3_v5, main_call3_v6, main_call3_c_2, main_call3_v7, main_call3_v8, main_call3_c_3, main_call3_v9, main_call3_v10, main_call3_v11, main_call3_v12, main_call3_v13, main_call3_v14, main_v74]
theorem hostOps0_7_writes : (hostOps0_7 : List (HloOp τ sig (Elt F))).Forall fun op => op.writes ⊆ (hostOps0_7_W.map (Proc.devRef (τ := τ) .tc)).toFinset :=
  StableHlo.forall_writes_sub_of_map rfl
/-- `hostOps0_7` writes none of the argument arrays (checked: each argument against each reference it writes). -/
theorem hostOps0_7_args : ∀ a ∈ argRefs, a ∉ hostOps0_7_W := ListAll.forall_mem_of_all_decide (by decide +kernel)

/-- No operation of `hostOps0_8` allocates a buffer. -/
theorem hostOps0_8_fresh : (hostOps0_8 : List (HloOp τ sig (Elt F))).Forall fun op => op.fresh = ∅ := by
  simp only [List.Forall]; repeat' constructor
/-- The reference each operation of `hostOps0_8` writes, in order. -/
abbrev hostOps0_8_W : List (Ref sig .tc) := [main_v75, main_c_18, main_v76, main_v77, main_c_19]
theorem hostOps0_8_writes : (hostOps0_8 : List (HloOp τ sig (Elt F))).Forall fun op => op.writes ⊆ (hostOps0_8_W.map (Proc.devRef (τ := τ) .tc)).toFinset :=
  StableHlo.forall_writes_sub_of_map rfl
/-- `hostOps0_8` writes none of the argument arrays (checked: each argument against each reference it writes). -/
theorem hostOps0_8_args : ∀ a ∈ argRefs, a ∉ hostOps0_8_W := ListAll.forall_mem_of_all_decide (by decide +kernel)

/-- No operation of `hostOps0_9` allocates a buffer. -/
theorem hostOps0_9_fresh : (hostOps0_9 : List (HloOp τ sig (Elt F))).Forall fun op => op.fresh = ∅ := by
  simp only [List.Forall]; repeat' constructor
/-- The reference each operation of `hostOps0_9` writes, in order. -/
abbrev hostOps0_9_W : List (Ref sig .tc) := [main_call4_v0, main_call4_c, main_call4_v1, main_call4_c_0, main_call4_v2, main_call4_v3, main_call4_v4, main_call4_c_1, main_call4_v5, main_call4_v6, main_call4_c_2, main_call4_v7, main_call4_v8, main_call4_c_3, main_call4_v9, main_call4_v10, main_call4_v11, main_call4_v12, main_call4_v13, main_call4_v14, main_v78]
theorem hostOps0_9_writes : (hostOps0_9 : List (HloOp τ sig (Elt F))).Forall fun op => op.writes ⊆ (hostOps0_9_W.map (Proc.devRef (τ := τ) .tc)).toFinset :=
  StableHlo.forall_writes_sub_of_map rfl
/-- `hostOps0_9` writes none of the argument arrays (checked: each argument against each reference it writes). -/
theorem hostOps0_9_args : ∀ a ∈ argRefs, a ∉ hostOps0_9_W := ListAll.forall_mem_of_all_decide (by decide +kernel)

/-- No operation of `hostOps0_10` allocates a buffer. -/
theorem hostOps0_10_fresh : (hostOps0_10 : List (HloOp τ sig (Elt F))).Forall fun op => op.fresh = ∅ := by
  simp only [List.Forall]; repeat' constructor
/-- The reference each operation of `hostOps0_10` writes, in order. -/
abbrev hostOps0_10_W : List (Ref sig .tc) := [main_v79, main_v80, main_v81, main_v82, main_v83, main_v84]
theorem hostOps0_10_writes : (hostOps0_10 : List (HloOp τ sig (Elt F))).Forall fun op => op.writes ⊆ (hostOps0_10_W.map (Proc.devRef (τ := τ) .tc)).toFinset :=
  StableHlo.forall_writes_sub_of_map rfl
/-- `hostOps0_10` writes none of the argument arrays (checked: each argument against each reference it writes). -/
theorem hostOps0_10_args : ∀ a ∈ argRefs, a ∉ hostOps0_10_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v86, main_v87, main_v88, main_v89, main_v90, main_v91, main_v92, main_v93, main_c_20, main_v94, main_v95, main_v96, main_v97, main_v98, main_c_21, main_v99, main_v100, main_c_22, main_v101, main_v102, main_v103, main_cst_23, main_cst_24]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps1_1` allocates a buffer. -/
theorem hostOps1_1_fresh : (hostOps1_1 : List (HloOp τ sig (Elt F))).Forall fun op => op.fresh = ∅ := by
  simp only [List.Forall]; repeat' constructor
/-- The reference each operation of `hostOps1_1` writes, in order. -/
abbrev hostOps1_1_W : List (Ref sig .tc) := [main_call5_v0, main_call5_v1, main_v104]
theorem hostOps1_1_writes : (hostOps1_1 : List (HloOp τ sig (Elt F))).Forall fun op => op.writes ⊆ (hostOps1_1_W.map (Proc.devRef (τ := τ) .tc)).toFinset :=
  StableHlo.forall_writes_sub_of_map rfl
/-- `hostOps1_1` writes none of the argument arrays (checked: each argument against each reference it writes). -/
theorem hostOps1_1_args : ∀ a ∈ argRefs, a ∉ hostOps1_1_W := ListAll.forall_mem_of_all_decide (by decide +kernel)

/-- No operation of `hostOps1_2` allocates a buffer. -/
theorem hostOps1_2_fresh : (hostOps1_2 : List (HloOp τ sig (Elt F))).Forall fun op => op.fresh = ∅ := by
  simp only [List.Forall]; repeat' constructor
/-- The reference each operation of `hostOps1_2` writes, in order. -/
abbrev hostOps1_2_W : List (Ref sig .tc) := [main_c_25, main_v105, main_v106, main_c_26, main_v107, main_v108, main_v109, main_cst_27, main_cst_28]
theorem hostOps1_2_writes : (hostOps1_2 : List (HloOp τ sig (Elt F))).Forall fun op => op.writes ⊆ (hostOps1_2_W.map (Proc.devRef (τ := τ) .tc)).toFinset :=
  StableHlo.forall_writes_sub_of_map rfl
/-- `hostOps1_2` writes none of the argument arrays (checked: each argument against each reference it writes). -/
theorem hostOps1_2_args : ∀ a ∈ argRefs, a ∉ hostOps1_2_W := ListAll.forall_mem_of_all_decide (by decide +kernel)

/-- No operation of `hostOps1_3` allocates a buffer. -/
theorem hostOps1_3_fresh : (hostOps1_3 : List (HloOp τ sig (Elt F))).Forall fun op => op.fresh = ∅ := by
  simp only [List.Forall]; repeat' constructor
/-- The reference each operation of `hostOps1_3` writes, in order. -/
abbrev hostOps1_3_W : List (Ref sig .tc) := [main_call6_v0, main_call6_v1, main_v110]
theorem hostOps1_3_writes : (hostOps1_3 : List (HloOp τ sig (Elt F))).Forall fun op => op.writes ⊆ (hostOps1_3_W.map (Proc.devRef (τ := τ) .tc)).toFinset :=
  StableHlo.forall_writes_sub_of_map rfl
/-- `hostOps1_3` writes none of the argument arrays (checked: each argument against each reference it writes). -/
theorem hostOps1_3_args : ∀ a ∈ argRefs, a ∉ hostOps1_3_W := ListAll.forall_mem_of_all_decide (by decide +kernel)

/-- No operation of `hostOps1_4` allocates a buffer. -/
theorem hostOps1_4_fresh : (hostOps1_4 : List (HloOp τ sig (Elt F))).Forall fun op => op.fresh = ∅ := by
  simp only [List.Forall]; repeat' constructor
/-- The reference each operation of `hostOps1_4` writes, in order. -/
abbrev hostOps1_4_W : List (Ref sig .tc) := [main_v111, main_v112, main_v113, main_v114, main_v115, main_v116, main_v117, main_v118, main_v119, main_v120, main_v121, main_v122, main_v123, main_v124, main_v125, main_v126, main_v127]
theorem hostOps1_4_writes : (hostOps1_4 : List (HloOp τ sig (Elt F))).Forall fun op => op.writes ⊆ (hostOps1_4_W.map (Proc.devRef (τ := τ) .tc)).toFinset :=
  StableHlo.forall_writes_sub_of_map rfl
/-- `hostOps1_4` writes none of the argument arrays (checked: each argument against each reference it writes). -/
theorem hostOps1_4_args : ∀ a ∈ argRefs, a ∉ hostOps1_4_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0`. -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- After `hostOps0_1`. -/
abbrev W2 : Dev nD → Valuation τ sig (Elt F) := fun c => StableHlo.after hostOps0_1 (W1 m ρ c)
/-- A reference `hostOps0_1` does not write keeps its contents across it. -/
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W2_args (c : Dev nD) : ∀ a ∈ argRefs, W2 m ρ c (Proc.devRef .tc a) = m ((c : Thread nD τ).loc a) :=
  fun a ha => (W2_of m ρ c a (hostOps0_1_args a ha)).trans (W1_args m ρ c a ha)
/-- After `hostOps0_2`. -/
abbrev W3 : Dev nD → Valuation τ sig (Elt F) := fun c => StableHlo.after hostOps0_2 (W2 m ρ c)
/-- A reference `hostOps0_2` does not write keeps its contents across it. -/
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W3_args (c : Dev nD) : ∀ a ∈ argRefs, W3 m ρ c (Proc.devRef .tc a) = m ((c : Thread nD τ).loc a) :=
  fun a ha => (W3_of m ρ c a (hostOps0_2_args a ha)).trans (W2_args m ρ c a ha)
/-- After `hostOps0_3`. -/
abbrev W4 : Dev nD → Valuation τ sig (Elt F) := fun c => StableHlo.after hostOps0_3 (W3 m ρ c)
/-- A reference `hostOps0_3` does not write keeps its contents across it. -/
theorem W4_of (c : Dev nD) (r : Ref sig .tc) (h : r ∉ hostOps0_3_W) : W4 m ρ c (Proc.devRef .tc r) = W3 m ρ c (Proc.devRef .tc r) :=
  StableHlo.after_of_writes_sub hostOps0_3 _ hostOps0_3_writes h
theorem W4_args (c : Dev nD) : ∀ a ∈ argRefs, W4 m ρ c (Proc.devRef .tc a) = m ((c : Thread nD τ).loc a) :=
  fun a ha => (W4_of m ρ c a (hostOps0_3_args a ha)).trans (W3_args m ρ c a ha)
/-- After `hostOps0_4`. -/
abbrev W5 : Dev nD → Valuation τ sig (Elt F) := fun c => StableHlo.after hostOps0_4 (W4 m ρ c)
/-- A reference `hostOps0_4` does not write keeps its contents across it. -/
theorem W5_of (c : Dev nD) (r : Ref sig .tc) (h : r ∉ hostOps0_4_W) : W5 m ρ c (Proc.devRef .tc r) = W4 m ρ c (Proc.devRef .tc r) :=
  StableHlo.after_of_writes_sub hostOps0_4 _ hostOps0_4_writes h
theorem W5_args (c : Dev nD) : ∀ a ∈ argRefs, W5 m ρ c (Proc.devRef .tc a) = m ((c : Thread nD τ).loc a) :=
  fun a ha => (W5_of m ρ c a (hostOps0_4_args a ha)).trans (W4_args m ρ c a ha)
/-- After `hostOps0_5`. -/
abbrev W6 : Dev nD → Valuation τ sig (Elt F) := fun c => StableHlo.after hostOps0_5 (W5 m ρ c)
/-- A reference `hostOps0_5` does not write keeps its contents across it. -/
theorem W6_of (c : Dev nD) (r : Ref sig .tc) (h : r ∉ hostOps0_5_W) : W6 m ρ c (Proc.devRef .tc r) = W5 m ρ c (Proc.devRef .tc r) :=
  StableHlo.after_of_writes_sub hostOps0_5 _ hostOps0_5_writes h
theorem W6_args (c : Dev nD) : ∀ a ∈ argRefs, W6 m ρ c (Proc.devRef .tc a) = m ((c : Thread nD τ).loc a) :=
  fun a ha => (W6_of m ρ c a (hostOps0_5_args a ha)).trans (W5_args m ρ c a ha)
/-- After `hostOps0_6`. -/
abbrev W7 : Dev nD → Valuation τ sig (Elt F) := fun c => StableHlo.after hostOps0_6 (W6 m ρ c)
/-- A reference `hostOps0_6` does not write keeps its contents across it. -/
theorem W7_of (c : Dev nD) (r : Ref sig .tc) (h : r ∉ hostOps0_6_W) : W7 m ρ c (Proc.devRef .tc r) = W6 m ρ c (Proc.devRef .tc r) :=
  StableHlo.after_of_writes_sub hostOps0_6 _ hostOps0_6_writes h
theorem W7_args (c : Dev nD) : ∀ a ∈ argRefs, W7 m ρ c (Proc.devRef .tc a) = m ((c : Thread nD τ).loc a) :=
  fun a ha => (W7_of m ρ c a (hostOps0_6_args a ha)).trans (W6_args m ρ c a ha)
/-- After `hostOps0_7`. -/
abbrev W8 : Dev nD → Valuation τ sig (Elt F) := fun c => StableHlo.after hostOps0_7 (W7 m ρ c)
/-- A reference `hostOps0_7` does not write keeps its contents across it. -/
theorem W8_of (c : Dev nD) (r : Ref sig .tc) (h : r ∉ hostOps0_7_W) : W8 m ρ c (Proc.devRef .tc r) = W7 m ρ c (Proc.devRef .tc r) :=
  StableHlo.after_of_writes_sub hostOps0_7 _ hostOps0_7_writes h
theorem W8_args (c : Dev nD) : ∀ a ∈ argRefs, W8 m ρ c (Proc.devRef .tc a) = m ((c : Thread nD τ).loc a) :=
  fun a ha => (W8_of m ρ c a (hostOps0_7_args a ha)).trans (W7_args m ρ c a ha)
/-- After `hostOps0_8`. -/
abbrev W9 : Dev nD → Valuation τ sig (Elt F) := fun c => StableHlo.after hostOps0_8 (W8 m ρ c)
/-- A reference `hostOps0_8` does not write keeps its contents across it. -/
theorem W9_of (c : Dev nD) (r : Ref sig .tc) (h : r ∉ hostOps0_8_W) : W9 m ρ c (Proc.devRef .tc r) = W8 m ρ c (Proc.devRef .tc r) :=
  StableHlo.after_of_writes_sub hostOps0_8 _ hostOps0_8_writes h
theorem W9_args (c : Dev nD) : ∀ a ∈ argRefs, W9 m ρ c (Proc.devRef .tc a) = m ((c : Thread nD τ).loc a) :=
  fun a ha => (W9_of m ρ c a (hostOps0_8_args a ha)).trans (W8_args m ρ c a ha)
/-- After `hostOps0_9`. -/
abbrev W10 : Dev nD → Valuation τ sig (Elt F) := fun c => StableHlo.after hostOps0_9 (W9 m ρ c)
/-- A reference `hostOps0_9` does not write keeps its contents across it. -/
theorem W10_of (c : Dev nD) (r : Ref sig .tc) (h : r ∉ hostOps0_9_W) : W10 m ρ c (Proc.devRef .tc r) = W9 m ρ c (Proc.devRef .tc r) :=
  StableHlo.after_of_writes_sub hostOps0_9 _ hostOps0_9_writes h
theorem W10_args (c : Dev nD) : ∀ a ∈ argRefs, W10 m ρ c (Proc.devRef .tc a) = m ((c : Thread nD τ).loc a) :=
  fun a ha => (W10_of m ρ c a (hostOps0_9_args a ha)).trans (W9_args m ρ c a ha)
/-- After `hostOps0_10` (region 0's entry). -/
abbrev W11 : Dev nD → Valuation τ sig (Elt F) := fun c => StableHlo.after hostOps0_10 (W10 m ρ c)
/-- A reference `hostOps0_10` does not write keeps its contents across it. -/
theorem W11_of (c : Dev nD) (r : Ref sig .tc) (h : r ∉ hostOps0_10_W) : W11 m ρ c (Proc.devRef .tc r) = W10 m ρ c (Proc.devRef .tc r) :=
  StableHlo.after_of_writes_sub hostOps0_10 _ hostOps0_10_writes h
theorem W11_args (c : Dev nD) : ∀ a ∈ argRefs, W11 m ρ c (Proc.devRef .tc a) = m ((c : Thread nD τ).loc a) :=
  fun a ha => (W11_of m ρ c a (hostOps0_10_args a ha)).trans (W10_args m ρ c a ha)
/-- The same read at the TensorCore's references (what region 0's proof data take). -/
abbrev V11 : (c : Dev nD) → (b : Ref sig .tc) → Buf (Elt F) ((c : Thread nD τ).loc b) := fun c b => W11 m ρ c b
/-- At region 0's exit: its arrays at what the pipeline leaves (the inputs as entered, each output's write-backs
    folded: `Dat.arrAt … N`), every other buffer as entered (`withArrays`). -/
def W12 (c : Dev nD) : Valuation τ sig (Elt F) :=
  Pipeline.withArrays spec0 c (W11 m ρ c) fun w => (dat0 (V11 m ρ) c).arrAt w cfg0.N
theorem W12_arr (c : Dev nD) (w : Fin cfg0.W) :
    W12 m ρ c (Proc.devRef .tc (Pipeline.arrRef spec0 w)) = (dat0 (V11 m ρ) c).arrAt w cfg0.N := by
  unfold W12; exact Pipeline.withArrays_arr spec0 launch0.win.arr_inj c _ _ w
theorem W12_of_ne (c : Dev nD) (b : Ref sig .tc) (hb : ∀ w, Pipeline.arrRef spec0 w ≠ b) :
    W12 m ρ c (Proc.devRef .tc b) = W11 m ρ c (Proc.devRef .tc b) := by
  unfold W12; exact Pipeline.withArrays_of_ne spec0 c _ _ b hb
/-- A reference that is none of region 0's OUTPUT arrays keeps its entry contents across it: an input window's
    array is never written back (`Dat.arrAt_in`, `A_eq0`); any other buffer is left as is. -/
theorem W12_of (c : Dev nD) (r : Ref sig .tc) (h : ∀ w : Fin cfg0.W, Pipeline.arrRef spec0 w = r → (cfg0.win w).isOut = false) :
    W12 m ρ c (Proc.devRef .tc r) = W11 m ρ c (Proc.devRef .tc r) := by
  by_cases hw : ∃ w : Fin cfg0.W, Pipeline.arrRef spec0 w = r
  · obtain ⟨w, rfl⟩ := hw
    exact (W12_arr m ρ c w).trans (((dat0 (V11 m ρ) c).arrAt_in w (h w rfl) _).trans (A_eq0 (V11 m ρ) c w))
  · exact W12_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W12_args (c : Dev nD) : ∀ a ∈ argRefs, W12 m ρ c (Proc.devRef .tc a) = m ((c : Thread nD τ).loc a) :=
  fun a ha => (W12_of m ρ c a (argsIn0 a ha)).trans (W11_args m ρ c a ha)
/-- The same read at the TensorCore's references (region 0's exit contents). -/
abbrev V12 : (c : Dev nD) → (b : Ref sig .tc) → Buf (Elt F) ((c : Thread nD τ).loc b) := fun c b => W12 m ρ c b
/-- At region 0's exit each of its arrays holds what the pipeline leaves (`hF0`) and every other buffer what it
    held at entry (`hrest0`): the two hypotheses of `unscopedBufs_of_arrays`. -/
theorem hF0 (c : Dev nD) (w : Fin cfg0.W) : (dat0 (V11 m ρ) c).arrAt w cfg0.N = V12 m ρ c (Pipeline.arrRef spec0 w) :=
  (W12_arr m ρ c w).symm
theorem hrest0 (c : Dev nD) : ∀ b, b ∉ Finset.univ.image (Pipeline.arrRef spec0) → V12 m ρ c b = V11 m ρ c b :=
  fun b hb => W12_of_ne m ρ c b fun w e => hb (Finset.mem_image.mpr ⟨w, Finset.mem_univ _, e⟩)

/-- After `hostOps1`. -/
abbrev W13 : Dev nD → Valuation τ sig (Elt F) := fun c => StableHlo.after hostOps1 (W12 m ρ c)
/-- A reference `hostOps1` does not write keeps its contents across it. -/
theorem W13_of (c : Dev nD) (r : Ref sig .tc) (h : r ∉ hostOps1_W) : W13 m ρ c (Proc.devRef .tc r) = W12 m ρ c (Proc.devRef .tc r) :=
  StableHlo.after_of_writes_sub hostOps1 _ hostOps1_writes h
theorem W13_args (c : Dev nD) : ∀ a ∈ argRefs, W13 m ρ c (Proc.devRef .tc a) = m ((c : Thread nD τ).loc a) :=
  fun a ha => (W13_of m ρ c a (hostOps1_args a ha)).trans (W12_args m ρ c a ha)
/-- After `hostOps1_1`. -/
abbrev W14 : Dev nD → Valuation τ sig (Elt F) := fun c => StableHlo.after hostOps1_1 (W13 m ρ c)
/-- A reference `hostOps1_1` does not write keeps its contents across it. -/
theorem W14_of (c : Dev nD) (r : Ref sig .tc) (h : r ∉ hostOps1_1_W) : W14 m ρ c (Proc.devRef .tc r) = W13 m ρ c (Proc.devRef .tc r) :=
  StableHlo.after_of_writes_sub hostOps1_1 _ hostOps1_1_writes h
theorem W14_args (c : Dev nD) : ∀ a ∈ argRefs, W14 m ρ c (Proc.devRef .tc a) = m ((c : Thread nD τ).loc a) :=
  fun a ha => (W14_of m ρ c a (hostOps1_1_args a ha)).trans (W13_args m ρ c a ha)
/-- After `hostOps1_2`. -/
abbrev W15 : Dev nD → Valuation τ sig (Elt F) := fun c => StableHlo.after hostOps1_2 (W14 m ρ c)
/-- A reference `hostOps1_2` does not write keeps its contents across it. -/
theorem W15_of (c : Dev nD) (r : Ref sig .tc) (h : r ∉ hostOps1_2_W) : W15 m ρ c (Proc.devRef .tc r) = W14 m ρ c (Proc.devRef .tc r) :=
  StableHlo.after_of_writes_sub hostOps1_2 _ hostOps1_2_writes h
theorem W15_args (c : Dev nD) : ∀ a ∈ argRefs, W15 m ρ c (Proc.devRef .tc a) = m ((c : Thread nD τ).loc a) :=
  fun a ha => (W15_of m ρ c a (hostOps1_2_args a ha)).trans (W14_args m ρ c a ha)
/-- After `hostOps1_3`. -/
abbrev W16 : Dev nD → Valuation τ sig (Elt F) := fun c => StableHlo.after hostOps1_3 (W15 m ρ c)
/-- A reference `hostOps1_3` does not write keeps its contents across it. -/
theorem W16_of (c : Dev nD) (r : Ref sig .tc) (h : r ∉ hostOps1_3_W) : W16 m ρ c (Proc.devRef .tc r) = W15 m ρ c (Proc.devRef .tc r) :=
  StableHlo.after_of_writes_sub hostOps1_3 _ hostOps1_3_writes h
theorem W16_args (c : Dev nD) : ∀ a ∈ argRefs, W16 m ρ c (Proc.devRef .tc a) = m ((c : Thread nD τ).loc a) :=
  fun a ha => (W16_of m ρ c a (hostOps1_3_args a ha)).trans (W15_args m ρ c a ha)
/-- After `hostOps1_4` (region 1's entry). -/
abbrev W17 : Dev nD → Valuation τ sig (Elt F) := fun c => StableHlo.after hostOps1_4 (W16 m ρ c)
/-- A reference `hostOps1_4` does not write keeps its contents across it. -/
theorem W17_of (c : Dev nD) (r : Ref sig .tc) (h : r ∉ hostOps1_4_W) : W17 m ρ c (Proc.devRef .tc r) = W16 m ρ c (Proc.devRef .tc r) :=
  StableHlo.after_of_writes_sub hostOps1_4 _ hostOps1_4_writes h
theorem W17_args (c : Dev nD) : ∀ a ∈ argRefs, W17 m ρ c (Proc.devRef .tc a) = m ((c : Thread nD τ).loc a) :=
  fun a ha => (W17_of m ρ c a (hostOps1_4_args a ha)).trans (W16_args m ρ c a ha)
/-- The same read at the TensorCore's references (what region 1's proof data take). -/
abbrev V17 : (c : Dev nD) → (b : Ref sig .tc) → Buf (Elt F) ((c : Thread nD τ).loc b) := fun c b => W17 m ρ c b
/-- At region 1's exit: its arrays at what the pipeline leaves (the inputs as entered, each output's write-backs
    folded: `Dat.arrAt … N`), every other buffer as entered (`withArrays`). -/
def W18 (c : Dev nD) : Valuation τ sig (Elt F) :=
  Pipeline.withArrays spec1 c (W17 m ρ c) fun w => (dat1 (V17 m ρ) c).arrAt w cfg1.N
theorem W18_arr (c : Dev nD) (w : Fin cfg1.W) :
    W18 m ρ c (Proc.devRef .tc (Pipeline.arrRef spec1 w)) = (dat1 (V17 m ρ) c).arrAt w cfg1.N := by
  unfold W18; exact (dat1 (V17 m ρ) c).withArrays_arrAt launch₀1.sharedIn _ (A_eq1 (V17 m ρ) c) w
theorem W18_of_ne (c : Dev nD) (b : Ref sig .tc) (hb : ∀ w, Pipeline.arrRef spec1 w ≠ b) :
    W18 m ρ c (Proc.devRef .tc b) = W17 m ρ c (Proc.devRef .tc b) := by
  unfold W18; exact Pipeline.withArrays_of_ne spec1 c _ _ b hb
/-- A reference that is none of region 1's OUTPUT arrays keeps its entry contents across it: an input window's
    array is never written back (`Dat.arrAt_in`, `A_eq1`); any other buffer is left as is. -/
theorem W18_of (c : Dev nD) (r : Ref sig .tc) (h : ∀ w : Fin cfg1.W, Pipeline.arrRef spec1 w = r → (cfg1.win w).isOut = false) :
    W18 m ρ c (Proc.devRef .tc r) = W17 m ρ c (Proc.devRef .tc r) := by
  by_cases hw : ∃ w : Fin cfg1.W, Pipeline.arrRef spec1 w = r
  · obtain ⟨w, rfl⟩ := hw
    exact (W18_arr m ρ c w).trans (((dat1 (V17 m ρ) c).arrAt_in w (h w rfl) _).trans (A_eq1 (V17 m ρ) c w))
  · exact W18_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W18_args (c : Dev nD) : ∀ a ∈ argRefs, W18 m ρ c (Proc.devRef .tc a) = m ((c : Thread nD τ).loc a) :=
  fun a ha => (W18_of m ρ c a (argsIn1 a ha)).trans (W17_args m ρ c a ha)
/-- The same read at the TensorCore's references (region 1's exit contents). -/
abbrev V18 : (c : Dev nD) → (b : Ref sig .tc) → Buf (Elt F) ((c : Thread nD τ).loc b) := fun c b => W18 m ρ c b
/-- At region 1's exit each of its arrays holds what the pipeline leaves (`hF1`) and every other buffer what it
    held at entry (`hrest1`): the two hypotheses of `unscopedBufs_of_arrays_shared`. -/
theorem hF1 (c : Dev nD) (w : Fin cfg1.W) : (dat1 (V17 m ρ) c).arrAt w cfg1.N = V18 m ρ c (Pipeline.arrRef spec1 w) :=
  (W18_arr m ρ c w).symm
theorem hrest1 (c : Dev nD) : ∀ b, b ∉ Finset.univ.image (Pipeline.arrRef spec1) → V18 m ρ c b = V17 m ρ c b :=
  fun b hb => W18_of_ne m ρ c b fun w e => hb (Finset.mem_image.mpr ⟨w, Finset.mem_univ _, e⟩)

/-! ### The arguments end as launched: no host stretch writes one and no region may change one (a region reads it
    through an input window or bypasses it) -/

theorem W18_main_arg0 (c : Dev nD) : W18 m ρ c (Proc.devRef .tc main_arg0) = m ((c : Thread nD τ).loc main_arg0) :=
  W18_args m ρ c main_arg0 (by decide)
theorem W18_main_arg1 (c : Dev nD) : W18 m ρ c (Proc.devRef .tc main_arg1) = m ((c : Thread nD τ).loc main_arg1) :=
  W18_args m ρ c main_arg1 (by decide)
theorem W18_main_arg2 (c : Dev nD) : W18 m ρ c (Proc.devRef .tc main_arg2) = m ((c : Thread nD τ).loc main_arg2) :=
  W18_args m ρ c main_arg2 (by decide)
theorem W18_main_arg3 (c : Dev nD) : W18 m ρ c (Proc.devRef .tc main_arg3) = m ((c : Thread nD τ).loc main_arg3) :=
  W18_args m ρ c main_arg3 (by decide)
theorem W18_main_arg4 (c : Dev nD) : W18 m ρ c (Proc.devRef .tc main_arg4) = m ((c : Thread nD τ).loc main_arg4) :=
  W18_args m ρ c main_arg4 (by decide)
theorem W18_main_arg5 (c : Dev nD) : W18 m ρ c (Proc.devRef .tc main_arg5) = m ((c : Thread nD τ).loc main_arg5) :=
  W18_args m ρ c main_arg5 (by decide)
theorem W18_main_arg6 (c : Dev nD) : W18 m ρ c (Proc.devRef .tc main_arg6) = m ((c : Thread nD τ).loc main_arg6) :=
  W18_args m ρ c main_arg6 (by decide)
theorem W18_main_arg7 (c : Dev nD) : W18 m ρ c (Proc.devRef .tc main_arg7) = m ((c : Thread nD τ).loc main_arg7) :=
  W18_args m ρ c main_arg7 (by decide)
theorem W18_main_arg8 (c : Dev nD) : W18 m ρ c (Proc.devRef .tc main_arg8) = m ((c : Thread nD τ).loc main_arg8) :=
  W18_args m ρ c main_arg8 (by decide)
theorem W18_main_arg9 (c : Dev nD) : W18 m ρ c (Proc.devRef .tc main_arg9) = m ((c : Thread nD τ).loc main_arg9) :=
  W18_args m ρ c main_arg9 (by decide)
theorem W18_main_arg10 (c : Dev nD) : W18 m ρ c (Proc.devRef .tc main_arg10) = m ((c : Thread nD τ).loc main_arg10) :=
  W18_args m ρ c main_arg10 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V11 m ρ) c
  | ⟨1, _⟩ => fun c => dat1 (V17 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W18`, the generator register at some state. -/
abbrev Tₙ (c : Dev nD) : sProp 𝕄 := iprop(StableHlo.held (c : Thread nD τ) (Pipeline.ucRefs τ sig) (W18 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W11`, left at `W12`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V11 m ρ) c).loose
  hwaits := Pipeline.hwaits_of_owed_zero _ _ _ _ L lv 0 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec0 c (V11 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V11 m ρ c) (A_eq0 (V11 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V11 m ρ c) (V12 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W17`, left at `W18`
    (what the launch reads at the end). Its arrays split out of the unscoped buffers
    (`arrays_of_unscopedBufs_shared`) and put back at the exit contents (`unscopedBufs_of_arrays_shared`; its input windows on one array (`launch₀1.sharedIn`) each dealt their share of it, `Pipeline.shareOf`, by the proof data); the generator register into the
    class invariant `ΦA` and out; nothing owed; no semaphore of the kernel's own. -/
def reg1 : Pipeline.RegionSeg (pcfgs (F := F)) adm (pdats m ρ) () defs₀ 𝒱₀ L lv 1 where
  win := launch₀1.win
  block_pos := launch₀1.block_pos
  stage_whole := launch₀1.stage_whole
  K := PEmpty
  osem k := k.elim
  ho := Pipeline.OwnSemFacts.none _
  hbody c := (body_obligation1 (V17 m ρ) c).loose
  hwaits := Pipeline.hwaits_of_owed_zero _ _ _ _ L lv 1 fun _ _ => rfl
  pre c := iprop(StableHlo.held (c : Thread nD τ) (Pipeline.ucRefs τ sig) (W17 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V17 m ρ c)
  hentry c := by
    rw [Pipeline.ownSems0_none]
    have hsplit := Pipeline.arrays_of_unscopedBufs_shared (p := 1) (pcfgs (F := F)) adm (pdats m ρ) launch₀1.win launch₀1.sharedIn launch₀1.arr_whole c
      (fun _ _ => rfl) (V17 m ρ c) (A_eq1 (V17 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m ρ) (fun _ _ => rfl)
      (V17 m ρ c) (V18 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 18 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .host (hseg hostOps0_7 hostOps0_7_sub hostOps0_7_fresh (W7 m ρ)),
    .host (hseg hostOps0_8 hostOps0_8_sub hostOps0_8_fresh (W8 m ρ)),
    .host (hseg hostOps0_9 hostOps0_9_sub hostOps0_9_fresh (W9 m ρ)),
    .host (hseg hostOps0_10 hostOps0_10_sub hostOps0_10_fresh (W10 m ρ)),
    .region (reg0 m ρ),
    .host (hseg hostOps1 hostOps1_sub hostOps1_fresh (W12 m ρ)),
    .host (hseg hostOps1_1 hostOps1_1_sub hostOps1_1_fresh (W13 m ρ)),
    .host (hseg hostOps1_2 hostOps1_2_sub hostOps1_2_fresh (W14 m ρ)),
    .host (hseg hostOps1_3 hostOps1_3_sub hostOps1_3_fresh (W15 m ρ)),
    .host (hseg hostOps1_4 hostOps1_4_sub hostOps1_4_fresh (W16 m ρ)),
    .region (reg1 m ρ) ]
/-- @main IS the run of the segments: `main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- the implicit arguments of the launch theorem are found by unifying its conclusion with this one
set_option backward.isDefEq.respectTransparency.types false in
/-- THE RUN. From any memory with zero counters every weakly fair execution of @main terminates without a fault, and in
    every final state each unscoped buffer of each core holds what the last boundary's valuation `W18` says, and every
    semaphore counter is zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W18 m ρ c b)
      ∧ r.2.sem = fun _ => 0) :=

  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h hz => ⟨h, funext fun g => hz g (.inr (no_unscoped g.2))⟩)

/-- THE FRAME: the arguments end as launched and every semaphore counter of the machine is back at zero. -/

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun _ h => ⟨(fun c =>
      ⟨(h.1 c _ (mem_uc main_arg0 (by decide))).trans (W18_main_arg0 m ρ c),
       (h.1 c _ (mem_uc main_arg1 (by decide))).trans (W18_main_arg1 m ρ c),
       (h.1 c _ (mem_uc main_arg2 (by decide))).trans (W18_main_arg2 m ρ c),
       (h.1 c _ (mem_uc main_arg3 (by decide))).trans (W18_main_arg3 m ρ c),
       (h.1 c _ (mem_uc main_arg4 (by decide))).trans (W18_main_arg4 m ρ c),
       (h.1 c _ (mem_uc main_arg5 (by decide))).trans (W18_main_arg5 m ρ c),
       (h.1 c _ (mem_uc main_arg6 (by decide))).trans (W18_main_arg6 m ρ c),
       (h.1 c _ (mem_uc main_arg7 (by decide))).trans (W18_main_arg7 m ρ c),
       (h.1 c _ (mem_uc main_arg8 (by decide))).trans (W18_main_arg8 m ρ c),
       (h.1 c _ (mem_uc main_arg9 (by decide))).trans (W18_main_arg9 m ρ c),
       (h.1 c _ (mem_uc main_arg10 (by decide))).trans (W18_main_arg10 m ρ c)⟩), h.2⟩) (run_all m ρ)

/-- What the call of the attention leaves in the result array, and the result is that array. -/
theorem W18_result (c : Dev nD) : W18 m ρ c (Proc.devRef .tc main_v128) = (dat1 (V17 m ρ) c).arrAt 7 cfg1.N :=
  W18_arr m ρ c 7

/-- THE RUN, WITH THE RESULT NAMED: the final array of the attention call's output window, and the frame. -/
theorem run_result : θ_run defs (onTc (τ := τ) (main (F := F))) ⟨m, fun _ => 0, ρ⟩ (fun r => ∀ c : Dev nD,
      r.2.mem ((c.tc : Thread nD τ).loc main_v128) = (dat1 (V17 m ρ) c).arrAt 7 cfg1.N) :=
  (θ_run defs _ _).mono (fun _ h c => (h.1 c _ (mem_uc main_v128 (by decide))).trans (W18_result m ρ c)) (run_all m ρ)

end Cert.KernelIdeal.Run

end
-- ==== Proof.Bits.lean ====
/- The words and literals that both programs name, and what they mean. -/
module

public import proofs.«01_k».proof.Proof.Gen.KernelIdeal.Skeleton
public import Idealize.ShloMosaic.Lib.Pipeline.ValueKit

@[expose] public section

set_option maxRecDepth 16384

noncomputable section

open Idealize.ShloMosaic Idealize.ShloMosaic.TcCoe Idealize.SL.Sem

namespace Cert.KernelIdeal.Val

open Cert.KernelIdeal Cert.KernelIdeal.Gen

/-- Equality of two small words, as a bit. -/
theorem eq_bit : ∀ x y : Fin 64, IntOp.cmpi .eq (BitVec.ofNat 32 x.val) (BitVec.ofNat 32 y.val) = if x.val = y.val then 1#1 else 0#1 := by
  decide +kernel

/-- The difference of two small words, as an integer. -/
theorem toInt_diff (x y : Nat) (hx : x < 4096) (hy : y < 4096) : (BitVec.ofNat 32 x - BitVec.ofNat 32 y).toInt = (x : Int) - y := by
  have h : ∀ n : Nat, n < 4096 → (BitVec.ofNat 32 n).toInt = (n : Int) := fun n hn => by
    rw [BitVec.toInt_eq_toNat_of_lt (by rw [BitVec.toNat_ofNat]; omega), BitVec.toNat_ofNat]
    omega
  rw [BitVec.toInt_sub, h x hx, h y hy]
  rw [Int.bmod_def]
  omega

/-- The window's bit: true where the key is at most the query and less than the window behind it. -/
theorem win_bit (x y : Nat) (hx : x < 4096) (hy : y < 4096) :
    IntOp.andi (IntOp.cmpi .sge (IntOp.subi (BitVec.ofNat 32 x) (BitVec.ofNat 32 y)) 0#32)
      (IntOp.cmpi .slt (IntOp.subi (BitVec.ofNat 32 x) (BitVec.ofNat 32 y)) 128#32) = if y ≤ x ∧ x < y + 128 then 1#1 else 0#1 := by
  have h := toInt_diff x y hx hy
  have e1 : (0#32).sle (BitVec.ofNat 32 x - BitVec.ofNat 32 y) = decide (y ≤ x) := by
    rw [BitVec.sle, h]; exact decide_eq_decide.mpr (by rw [show (0#32 : BitVec 32).toInt = 0 from rfl]; omega)
  have e2 : (BitVec.ofNat 32 x - BitVec.ofNat 32 y).slt 128#32 = decide (x < y + 128) := by
    rw [BitVec.slt, h]; exact decide_eq_decide.mpr (by rw [show (128#32 : BitVec 32).toInt = 128 from rfl]; omega)
  simp only [IntOp.andi, IntOp.cmpi, IntOp.subi, e1, e2]
  by_cases h1 : y ≤ x <;> by_cases h2 : x < y + 128 <;> simp [h1, h2]

/-- The literal of minus infinity. -/
theorem bot_bits : Ideal.ofBits .f32 0xFF800000#32 = (⊥ : EReal) := by
  simp [Ideal.ofBits, Ideal.ieee]

/-- The literal of one eighth. -/
theorem eighth_bits : Ideal.ofBits .f32 0x3E000000#32 = (((1 : ℝ) / 8 : ℝ) : EReal) := by
  simp [Ideal.ofBits, Ideal.ieee, -EReal.coe_mul]; norm_num

theorem uito_one : FloatOps.uitofp (F := Ideal) .bf16 1#1 = (1 : EReal) := by
  simp [FloatOps.uitofp]
theorem uito_zero : FloatOps.uitofp (F := Ideal) .bf16 0#1 = (0 : EReal) := by
  simp [FloatOps.uitofp]

end Cert.KernelIdeal.Val
-- ==== Proof.EqMath.lean ====
/- The problem's mathematics over the extended reals, written once, and the equations that bring the kernel's arithmetic to it: the scale,
   the rotation, the window of keys, the order of the last sum. -/
module

public import proofs.«01_k».proof.Proof.Bits

@[expose] public section

noncomputable section

open Idealize.ShloMosaic

namespace Cert.Gqa

/-! ## The scale -/

/-- One eighth, as both programs spell it. -/
def c8 : EReal := Ideal.ofBits .f32 0x3E000000#32

theorem c8_eq : c8 = (((1 : ℝ) / 8 : ℝ) : EReal) := Cert.KernelIdeal.Val.eighth_bits
theorem c8_nonneg : 0 ≤ c8 := by rw [c8_eq]; exact_mod_cast (by norm_num : (0:ℝ) ≤ 1 / 8)
theorem c8_ne_top : c8 ≠ ⊤ := by rw [c8_eq]; exact EReal.coe_ne_top _

theorem add_c8 (a b : EReal) : (a + b) * c8 = a * c8 + b * c8 := EReal.right_distrib_of_nonneg_of_ne_top c8_nonneg c8_ne_top a b

theorem sub_c8 (a b : EReal) : (a - b) * c8 = a * c8 - b * c8 := by
  rw [sub_eq_add_neg, add_c8, EReal.neg_mul, ← sub_eq_add_neg]

theorem sum_c8 {ι : Type} (s : Finset ι) (f : ι → EReal) : (∑ i ∈ s, f i) * c8 = ∑ i ∈ s, f i * c8 := by
  classical
  induction s using Finset.induction_on with
  | empty => simp
  | insert a s ha ih => rw [Finset.sum_insert ha, Finset.sum_insert ha, add_c8, ih]

/-- A projected element whose weights and bias are scaled is the scaled element. -/
theorem proj_c8 {n : Nat} (x w : Fin n → EReal) (b : EReal) : (∑ d, x d * (w d * c8)) + b * c8 = ((∑ d, x d * w d) + b) * c8 := by
  rw [add_c8, sum_c8]
  exact congrArg (· + b * c8) (Finset.sum_congr rfl fun d _ => (mul_assoc _ _ _).symm)

/-! ## The rotation -/

/-- The half-split rotation of one head: the first half takes minus the sine of the second, the second plus the sine of the first. -/
def rope (f : Fin 64 → EReal) (C S : Fin 32 → EReal) (h : Fin 64) : EReal :=
  if hl : h.val < 32 then f h * C ⟨h.val, hl⟩ - f ⟨h.val + 32, by omega⟩ * S ⟨h.val, hl⟩
  else f h * C ⟨h.val - 32, by omega⟩ + f ⟨h.val - 32, by omega⟩ * S ⟨h.val - 32, by omega⟩

/-- The rotation commutes with the scale. -/
theorem rope_c8 (f : Fin 64 → EReal) (C S : Fin 32 → EReal) (h : Fin 64) : rope (fun a => f a * c8) C S h = rope f C S h * c8 := by
  unfold rope
  split
  · rw [sub_c8, mul_right_comm, mul_right_comm (f _) (S _)]
  · rw [add_c8, mul_right_comm, mul_right_comm (f _) (S _)]

/-- A sum against a zero-one column is the element the column picks. -/
theorem sum_pick {n : Nat} (f : Fin n → EReal) (P : Fin n → Prop) [DecidablePred P] (a : Fin n) (ha : ∀ b, P b ↔ b = a) :
    (∑ b, f b * (if P b then (1 : EReal) else 0)) = f a := by
  rw [Finset.sum_eq_single a]
  · rw [if_pos ((ha a).mpr rfl), mul_one]
  · intro b _ hb
    rw [if_neg fun h => hb ((ha b).mp h), mul_zero]
  · intro h; exact absurd (Finset.mem_univ a) h

/-! ## The window of keys -/

/-- A sum of terms that vanish outside a span is the sum over the span. -/
theorem sum_span (f : Fin 512 → EReal) (lo : Nat) (hlo : lo + 256 ≤ 512) (h0 : ∀ j : Fin 512, (j.val < lo ∨ lo + 256 ≤ j.val) → f j = 0) :
    (∑ s : Fin 256, f ⟨lo + s.val, by omega⟩) = ∑ j, f j := by
  let e : Fin 256 ↪ Fin 512 := ⟨fun s => ⟨lo + s.val, by omega⟩, fun a b h => Fin.ext (by have := congrArg Fin.val h; simp only [] at this; omega)⟩
  rw [show (∑ s : Fin 256, f ⟨lo + s.val, by omega⟩) = ∑ j ∈ Finset.univ.map e, f j from (Finset.sum_map Finset.univ e f).symm]
  refine Finset.sum_subset (Finset.subset_univ _) fun j _ hj => h0 j ?_
  by_contra hc
  refine hj (Finset.mem_map.mpr ⟨⟨j.val - lo, by omega⟩, Finset.mem_univ _, Fin.ext ?_⟩)
  show lo + (j.val - lo) = j.val
  omega

/-- The same of a maximum, the terms outside the span being minus infinity. -/
theorem max_span (f : Fin 512 → EReal) (lo : Nat) (hlo : lo + 256 ≤ 512) (h0 : ∀ j : Fin 512, (j.val < lo ∨ lo + 256 ≤ j.val) → f j = ⊥) :
    (Finset.univ.fold max ⊥ fun s : Fin 256 => f ⟨lo + s.val, by omega⟩) = Finset.univ.fold max (⊥ : EReal) f := by
  refine le_antisymm ?_ ?_
  · rw [Finset.fold_max_le]
    refine ⟨bot_le, fun s _ => ?_⟩
    exact (Finset.le_fold_max _).mpr (Or.inr ⟨⟨lo + s.val, by omega⟩, Finset.mem_univ _, le_rfl⟩)
  · rw [Finset.fold_max_le]
    refine ⟨bot_le, fun j _ => ?_⟩
    by_cases hj : j.val < lo ∨ lo + 256 ≤ j.val
    · rw [h0 j hj]; exact bot_le
    · refine (Finset.le_fold_max _).mpr (Or.inr ⟨⟨j.val - lo, by omega⟩, Finset.mem_univ _, le_of_eq (congrArg f (Fin.ext ?_))⟩)
      show j.val = lo + (j.val - lo)
      omega

theorem exp_bot_sub (M : EReal) : Ideal.exp (⊥ - M) = 0 := by
  rw [sub_eq_add_neg, EReal.bot_add]
  rfl

/-- One element of attention: the scores `S` of one query against the keys, the keys' values `v` of one channel, the head's sink. -/
def attn (S v : Fin 512 → EReal) (sk : EReal) : EReal :=
  Ideal.div (∑ j, v j * Ideal.exp (S j - max (Finset.univ.fold max ⊥ S) sk))
    (Ideal.exp (sk - max (Finset.univ.fold max ⊥ S) sk) + ∑ j, Ideal.exp (S j - max (Finset.univ.fold max ⊥ S) sk))

/-- Attention over the span of keys alone. -/
theorem attn_span (S v : Fin 512 → EReal) (sk : EReal) (st : Fin 256 → EReal) (lo : Nat) (hlo : lo + 256 ≤ 512)
    (hin : ∀ s : Fin 256, st s = S ⟨lo + s.val, by omega⟩) (h0 : ∀ j : Fin 512, (j.val < lo ∨ lo + 256 ≤ j.val) → S j = ⊥) :
    Ideal.div (∑ s : Fin 256, v ⟨lo + s.val, by omega⟩ * Ideal.exp (st s - max (Finset.univ.fold max ⊥ st) sk))
      (Ideal.exp (sk - max (Finset.univ.fold max ⊥ st) sk) + ∑ s, Ideal.exp (st s - max (Finset.univ.fold max ⊥ st) sk)) = attn S v sk := by
  obtain rfl : st = fun s => S ⟨lo + s.val, by omega⟩ := funext hin
  unfold attn
  rw [max_span S lo hlo h0]
  rw [sum_span (fun j => v j * Ideal.exp (S j - max (Finset.univ.fold max ⊥ S) sk)) lo hlo fun j hj => by rw [h0 j hj, exp_bot_sub, mul_zero]]
  rw [sum_span (fun j => Ideal.exp (S j - max (Finset.univ.fold max ⊥ S) sk)) lo hlo fun j hj => by rw [h0 j hj, exp_bot_sub]]

/-! ## The order of the last sum -/

/-- The heads' channels, group by group and row by row, are the channels head by head. -/
theorem sum_rows (F : Fin 64 → Fin 64 → EReal) :
    (∑ n : Fin 8, ∑ r : Fin 512, F ⟨n.val * 8 + r.val / 64, by omega⟩ ⟨r.val % 64, by omega⟩) = ∑ a, ∑ h, F a h := by
  have e1 : ∀ n : Fin 8, (∑ r : Fin 512, F ⟨n.val * 8 + r.val / 64, by omega⟩ ⟨r.val % 64, by omega⟩)
      = ∑ g : Fin 8, ∑ h : Fin 64, F ⟨n.val * 8 + g.val, by omega⟩ h := fun n =>
    Fin.sum_divmod_congr fun t ha hs => rfl
  rw [Finset.sum_congr rfl fun n _ => e1 n]
  exact (Fin.sum_divmod_congr (f := fun n g => ∑ h : Fin 64, F ⟨n.val * 8 + g.val, by omega⟩ h) fun t ha hs => by
    refine Finset.sum_congr rfl fun h _ => ?_
    exact congrArg (F · h) (Fin.ext (by show t.val = t.val / 8 * 8 + t.val % 8; omega))).symm

end Cert.Gqa
-- ==== Proof.Spec.lean ====
/- What both programs compute, over the extended reals, as a function of the arguments: projections, rotation, windowed attention with a sink in
   the softmax, output projection. -/
module

public import proofs.«01_k».proof.Proof.EqMath

@[expose] public section

noncomputable section

open Idealize.ShloMosaic

namespace Cert.Gqa

/-- The ramp between interpolated and extrapolated frequencies, clipped to the unit interval. -/
def ramp (h : Nat) : EReal :=
  min 1 (max 0 (Ideal.div (FloatOps.sitofp (F := Ideal) .f32 (BitVec.ofNat 32 h) - Ideal.ofBits .f32 1090616326#32) (Ideal.ofBits .f32 1091887689#32)))

/-- The base frequency of a pair of channels. -/
def freq (h : Nat) : EReal :=
  Ideal.pow (Ideal.ofBits .f32 1209170944#32)
    (Ideal.div (Ideal.ofBits .f32 1073741824#32 * FloatOps.sitofp (F := Ideal) .f32 (BitVec.ofNat 32 h)) (Ideal.ofBits .f32 1115684864#32))

/-- The angle of a position. -/
def ang (p : BitVec 32) (h : Nat) : EReal :=
  FloatOps.sitofp (F := Ideal) .f32 p *
    (Ideal.div 1 (Ideal.ofBits .f32 1107296256#32 * freq h) * (1 - (1 - ramp h)) + Ideal.div 1 (freq h) * (1 - ramp h))

def cosT (p : BitVec 32) (h : Fin 32) : EReal := Ideal.cos (ang p h.val) * Ideal.ofBits .f32 1068260486#32
def sinT (p : BitVec 32) (h : Fin 32) : EReal := Ideal.sin (ang p h.val) * Ideal.ofBits .f32 1068260486#32

/-- The arguments, as functions of their indices. -/
structure Args where
  x : Fin 2048 → Fin 2880 → EReal
  wq : Fin 2880 → Fin 64 → Fin 64 → EReal
  bq : Fin 64 → Fin 64 → EReal
  wk : Fin 2880 → Fin 8 → Fin 64 → EReal
  bk : Fin 8 → Fin 64 → EReal
  wv : Fin 2880 → Fin 8 → Fin 64 → EReal
  bv : Fin 8 → Fin 64 → EReal
  wo : Fin 64 → Fin 64 → Fin 2880 → EReal
  bo : Fin 2880 → EReal
  sk : Fin 64 → EReal
  ps : Fin 2048 → BitVec 32

namespace Args
variable (A : Args)

def q (i : Fin 2048) (n h : Fin 64) : EReal := (∑ d, A.x i d * A.wq d n h) + A.bq n h
def k (i : Fin 2048) (n : Fin 8) (h : Fin 64) : EReal := (∑ d, A.x i d * A.wk d n h) + A.bk n h
def v (i : Fin 2048) (n : Fin 8) (h : Fin 64) : EReal := (∑ d, A.x i d * A.wv d n h) + A.bv n h
/-- The rotated query and key. -/
def qr (i : Fin 2048) (n h : Fin 64) : EReal := rope (A.q i n) (cosT (A.ps i)) (sinT (A.ps i)) h
def kr (i : Fin 2048) (n : Fin 8) (h : Fin 64) : EReal := rope (A.k i n) (cosT (A.ps i)) (sinT (A.ps i)) h
/-- Token `i` of sequence `b`. -/
def tok (b : Fin 4) (i : Fin 512) : Fin 2048 := ⟨b.val * 512 + i.val, by omega⟩
/-- Query head `g` of group `n`. -/
def hd (n g : Fin 8) : Fin 64 := ⟨n.val * 8 + g.val, by omega⟩
/-- The score of key `j` for query `i`, minus infinity outside the window. -/
def score (b : Fin 4) (n g : Fin 8) (i j : Fin 512) : EReal :=
  if j.val ≤ i.val ∧ i.val < j.val + 128 then (∑ d, A.kr (tok b j) n d * A.qr (tok b i) (hd n g) d) * c8 else ⊥
/-- Attention's output. -/
def att (b : Fin 4) (n g : Fin 8) (i : Fin 512) (h : Fin 64) : EReal :=
  attn (A.score b n g i) (fun j => A.v (tok b j) n h) (A.sk (hd n g))
/-- The result. -/
def out (b : Fin 4) (i : Fin 512) (d : Fin 2880) : EReal :=
  (∑ a : Fin 64, ∑ h : Fin 64, A.att b ⟨a.val / 8, by omega⟩ ⟨a.val % 8, by omega⟩ i h * A.wo a h d) + A.bo d

end Args

end Cert.Gqa
-- ==== Proof.HostA.lean ====
/- The operands of the projection call, read at an index in the arguments. -/
module

public import proofs.«01_k».proof.Proof.IdealRun
public import proofs.«01_k».proof.Proof.Spec
public import Idealize.ShloMosaic.Lib.Pipeline.ValueKit

@[expose] public section

set_option maxRecDepth 16384

noncomputable section

open Idealize.ShloMosaic Idealize.ShloMosaic.TcCoe Idealize.SL.Sem

namespace Cert.KernelIdeal.Val

open Cert.KernelIdeal Cert.KernelIdeal.Gen Cert.KernelIdeal.Run

variable (m : (ℓ : Loc nD τ sig) → Buf (Elt Ideal) ℓ) (ρ : Dev nD → PrngReg) (c : Dev nD)

/-- The projection's left operand is `x`. -/
theorem e_x (i : Fin 2048) (d : Fin 2880) :
    (show FVec Ideal S2048x2880 .bf16 from V11 m ρ c main_v84) (ix2 i d) = (show FVec Ideal S2048x2880 .f32 from m ((c : Thread nD τ).loc main_arg0)) (ix2 i d) := by
  have h : V11 m ρ c main_v84 = truncf (F := Ideal) .bf16 (show FVec Ideal S2048x2880 .f32 from m ((c : Thread nD τ).loc main_arg0)) bitsLt_bf16_f32 := by
    show W11 m ρ c _ = _
    after_results
  rw [h]
  rfl

/-! ## The weights -/

theorem w1_v8 : W1 m ρ c (Proc.devRef .tc main_v8)
    = concatenate S2880x5120 1 [⟨S2880x4096, (show FVec Ideal S2880x4096 .bf16 from W1 m ρ c (Proc.devRef .tc main_v3))⟩,
        ⟨S2880x512, (show FVec Ideal S2880x512 .bf16 from W1 m ρ c (Proc.devRef .tc main_v5))⟩,
        ⟨S2880x512, (show FVec Ideal S2880x512 .bf16 from W1 m ρ c (Proc.devRef .tc main_v7))⟩] concatenates_S2880x4096_S2880x512_S2880x512_S2880x5120_d1 := by
  after_results
  rfl

theorem w1_v3 (i : Fin 2880) (l : Fin 4096) : (show FVec Ideal S2880x4096 .bf16 from W1 m ρ c (Proc.devRef .tc main_v3)) (ix2 i l)
    = (show FVec Ideal S2880x64x64 .f32 from m ((c : Thread nD τ).loc main_arg1)) (ix3 i ⟨l.val / 64, by omega⟩ ⟨l.val % 64, by omega⟩) * Ideal.ofBits .f32 0x3E000000#32 := by
  after_results
  pointwise []

theorem w1_v5 (i : Fin 2880) (l : Fin 512) : (show FVec Ideal S2880x512 .bf16 from W1 m ρ c (Proc.devRef .tc main_v5)) (ix2 i l)
    = (show FVec Ideal S2880x8x64 .f32 from m ((c : Thread nD τ).loc main_arg3)) (ix3 i ⟨l.val / 64, by omega⟩ ⟨l.val % 64, by omega⟩) := by
  after_results
  pointwise []

theorem w1_v7 (i : Fin 2880) (l : Fin 512) : (show FVec Ideal S2880x512 .bf16 from W1 m ρ c (Proc.devRef .tc main_v7)) (ix2 i l)
    = (show FVec Ideal S2880x8x64 .f32 from m ((c : Thread nD τ).loc main_arg5)) (ix3 i ⟨l.val / 64, by omega⟩ ⟨l.val % 64, by omega⟩) := by
  after_results
  pointwise []

theorem wk_at (i : Fin 2880) (l : Fin 512) (n : Fin 8) (h : Fin 64) (hl : l.val = n.val * 64 + h.val) : (show FVec Ideal S2880x512 .bf16 from W1 m ρ c (Proc.devRef .tc main_v5)) (ix2 i l)
    = (show FVec Ideal S2880x8x64 .f32 from m ((c : Thread nD τ).loc main_arg3)) (ix3 i n h) := by
  rw [w1_v5, show (⟨l.val / 64, by omega⟩ : Fin 8) = n from Fin.ext (by simp only []; omega),
    show (⟨l.val % 64, by omega⟩ : Fin 64) = h from Fin.ext (by simp only []; omega)]

theorem wv_at (i : Fin 2880) (l : Fin 512) (n : Fin 8) (h : Fin 64) (hl : l.val = n.val * 64 + h.val) : (show FVec Ideal S2880x512 .bf16 from W1 m ρ c (Proc.devRef .tc main_v7)) (ix2 i l)
    = (show FVec Ideal S2880x8x64 .f32 from m ((c : Thread nD τ).loc main_arg5)) (ix3 i n h) := by
  rw [w1_v7, show (⟨l.val / 64, by omega⟩ : Fin 8) = n from Fin.ext (by simp only []; omega),
    show (⟨l.val % 64, by omega⟩ : Fin 64) = h from Fin.ext (by simp only []; omega)]

/-- The weights side by side, read in the first, second and third part. -/
theorem e_w (i : Fin 2880) (l : Fin 5120) :
    (show FVec Ideal S2880x5120 .bf16 from V11 m ρ c main_v8) (ix2 i l)
      = (if h : l.val < 4096 then (show FVec Ideal S2880x4096 .bf16 from W1 m ρ c (Proc.devRef .tc main_v3)) (ix2 i ⟨l.val, h⟩)
        else if h' : l.val - 4096 < 512 then (show FVec Ideal S2880x512 .bf16 from W1 m ρ c (Proc.devRef .tc main_v5)) (ix2 i ⟨l.val - 4096, h'⟩)
        else (show FVec Ideal S2880x512 .bf16 from W1 m ρ c (Proc.devRef .tc main_v7)) (ix2 i ⟨l.val - 4096 - 512, by omega⟩)) := by
  have h : V11 m ρ c main_v8 = W1 m ρ c (Proc.devRef .tc main_v8) := by
    show W11 m ρ c _ = _
    rw [W11_of _ _ _ _ (by decide), W10_of _ _ _ _ (by decide), W9_of _ _ _ _ (by decide), W8_of _ _ _ _ (by decide), W7_of _ _ _ _ (by decide), W6_of _ _ _ _ (by decide), W5_of _ _ _ _ (by decide), W4_of _ _ _ _ (by decide), W3_of _ _ _ _ (by decide), W2_of _ _ _ _ (by decide)]
  rw [h, w1_v8]
  pointwise []

theorem e_wq (i : Fin 2880) (n h : Fin 64) (l : Fin 5120) (hl : l.val = n.val * 64 + h.val) :
    (show FVec Ideal S2880x5120 .bf16 from V11 m ρ c main_v8) (ix2 i l) = (show FVec Ideal S2880x64x64 .f32 from m ((c : Thread nD τ).loc main_arg1)) (ix3 i n h) * Ideal.ofBits .f32 0x3E000000#32 := by
  rw [e_w, dif_pos (by omega), w1_v3]
  refine congrArg (fun z => (show FVec Ideal S2880x64x64 .f32 from m ((c : Thread nD τ).loc main_arg1)) z * _) ?_
  congr 1 <;> (apply Fin.ext; simp only []; omega)

theorem e_wk (i : Fin 2880) (n : Fin 8) (h : Fin 64) (l : Fin 5120) (hl : l.val = 4096 + n.val * 64 + h.val) :
    (show FVec Ideal S2880x5120 .bf16 from V11 m ρ c main_v8) (ix2 i l) = (show FVec Ideal S2880x8x64 .f32 from m ((c : Thread nD τ).loc main_arg3)) (ix3 i n h) := by
  rw [e_w, dif_neg (by omega), dif_pos (by omega)]
  exact wk_at m ρ c i _ n h (by simp only []; omega)

theorem e_wv (i : Fin 2880) (n : Fin 8) (h : Fin 64) (l : Fin 5120) (hl : l.val = 4608 + n.val * 64 + h.val) :
    (show FVec Ideal S2880x5120 .bf16 from V11 m ρ c main_v8) (ix2 i l) = (show FVec Ideal S2880x8x64 .f32 from m ((c : Thread nD τ).loc main_arg5)) (ix3 i n h) := by
  rw [e_w, dif_neg (by omega), dif_neg (by omega)]
  exact wv_at m ρ c i _ n h (by simp only []; omega)

/-! ## The bias -/

theorem w1_v14 : W1 m ρ c (Proc.devRef .tc main_v14)
    = concatenate S5120 0 [⟨S4096, (show FVec Ideal S4096 .f32 from W1 m ρ c (Proc.devRef .tc main_v11))⟩,
        ⟨S512, (show FVec Ideal S512 .f32 from W1 m ρ c (Proc.devRef .tc main_v12))⟩,
        ⟨S512, (show FVec Ideal S512 .f32 from W1 m ρ c (Proc.devRef .tc main_v13))⟩] concatenates_S4096_S512_S512_S5120_d0 := by
  after_results
  rfl

theorem w1_v15 : W1 m ρ c (Proc.devRef .tc main_v15)
    = broadcastInDim S1x5120 ![1] bcast_S5120_S1x5120_1 (show FVec Ideal S5120 .f32 from W1 m ρ c (Proc.devRef .tc main_v14)) := by
  after_results

theorem w1_v11 (l : Fin 4096) : (show FVec Ideal S4096 .f32 from W1 m ρ c (Proc.devRef .tc main_v11)) (ix1 l)
    = (show FVec Ideal S64x64 .f32 from m ((c : Thread nD τ).loc main_arg2)) (ix2 ⟨l.val / 64, by omega⟩ ⟨l.val % 64, by omega⟩) * Ideal.ofBits .f32 0x3E000000#32 := by
  after_results
  pointwise []

theorem w1_v12 (l : Fin 512) : (show FVec Ideal S512 .f32 from W1 m ρ c (Proc.devRef .tc main_v12)) (ix1 l) = (show FVec Ideal S8x64 .f32 from m ((c : Thread nD τ).loc main_arg4)) (ix2 ⟨l.val / 64, by omega⟩ ⟨l.val % 64, by omega⟩) := by
  after_results
  pointwise []

theorem w1_v13 (l : Fin 512) : (show FVec Ideal S512 .f32 from W1 m ρ c (Proc.devRef .tc main_v13)) (ix1 l) = (show FVec Ideal S8x64 .f32 from m ((c : Thread nD τ).loc main_arg6)) (ix2 ⟨l.val / 64, by omega⟩ ⟨l.val % 64, by omega⟩) := by
  after_results
  pointwise []

theorem bk_at (l : Fin 512) (n : Fin 8) (h : Fin 64) (hl : l.val = n.val * 64 + h.val) : (show FVec Ideal S512 .f32 from W1 m ρ c (Proc.devRef .tc main_v12)) (ix1 l)
    = (show FVec Ideal S8x64 .f32 from m ((c : Thread nD τ).loc main_arg4)) (ix2 n h) := by
  rw [w1_v12, show (⟨l.val / 64, by omega⟩ : Fin 8) = n from Fin.ext (by simp only []; omega),
    show (⟨l.val % 64, by omega⟩ : Fin 64) = h from Fin.ext (by simp only []; omega)]

theorem bv_at (l : Fin 512) (n : Fin 8) (h : Fin 64) (hl : l.val = n.val * 64 + h.val) : (show FVec Ideal S512 .f32 from W1 m ρ c (Proc.devRef .tc main_v13)) (ix1 l)
    = (show FVec Ideal S8x64 .f32 from m ((c : Thread nD τ).loc main_arg6)) (ix2 n h) := by
  rw [w1_v13, show (⟨l.val / 64, by omega⟩ : Fin 8) = n from Fin.ext (by simp only []; omega),
    show (⟨l.val % 64, by omega⟩ : Fin 64) = h from Fin.ext (by simp only []; omega)]

theorem e_b (l : Fin 5120) :
    (show FVec Ideal S1x5120 .f32 from V11 m ρ c main_v15) (ix2 0 l)
      = (if h : l.val < 4096 then (show FVec Ideal S4096 .f32 from W1 m ρ c (Proc.devRef .tc main_v11)) (ix1 ⟨l.val, h⟩)
        else if h' : l.val - 4096 < 512 then (show FVec Ideal S512 .f32 from W1 m ρ c (Proc.devRef .tc main_v12)) (ix1 ⟨l.val - 4096, h'⟩)
        else (show FVec Ideal S512 .f32 from W1 m ρ c (Proc.devRef .tc main_v13)) (ix1 ⟨l.val - 4096 - 512, by omega⟩)) := by
  have h : V11 m ρ c main_v15 = W1 m ρ c (Proc.devRef .tc main_v15) := by
    show W11 m ρ c _ = _
    rw [W11_of _ _ _ _ (by decide), W10_of _ _ _ _ (by decide), W9_of _ _ _ _ (by decide), W8_of _ _ _ _ (by decide), W7_of _ _ _ _ (by decide), W6_of _ _ _ _ (by decide), W5_of _ _ _ _ (by decide), W4_of _ _ _ _ (by decide), W3_of _ _ _ _ (by decide), W2_of _ _ _ _ (by decide)]
  rw [h, w1_v15, w1_v14]
  pointwise []

theorem e_bq (n h : Fin 64) (l : Fin 5120) (hl : l.val = n.val * 64 + h.val) :
    (show FVec Ideal S1x5120 .f32 from V11 m ρ c main_v15) (ix2 0 l) = (show FVec Ideal S64x64 .f32 from m ((c : Thread nD τ).loc main_arg2)) (ix2 n h) * Ideal.ofBits .f32 0x3E000000#32 := by
  rw [e_b, dif_pos (by omega), w1_v11]
  refine congrArg (fun z => (show FVec Ideal S64x64 .f32 from m ((c : Thread nD τ).loc main_arg2)) z * _) ?_
  congr 1 <;> (apply Fin.ext; simp only []; omega)

theorem e_bk (n : Fin 8) (h : Fin 64) (l : Fin 5120) (hl : l.val = 4096 + n.val * 64 + h.val) :
    (show FVec Ideal S1x5120 .f32 from V11 m ρ c main_v15) (ix2 0 l) = (show FVec Ideal S8x64 .f32 from m ((c : Thread nD τ).loc main_arg4)) (ix2 n h) := by
  rw [e_b, dif_neg (by omega), dif_pos (by omega)]
  exact bk_at m ρ c _ n h (by simp only []; omega)

theorem e_bv (n : Fin 8) (h : Fin 64) (l : Fin 5120) (hl : l.val = 4608 + n.val * 64 + h.val) :
    (show FVec Ideal S1x5120 .f32 from V11 m ρ c main_v15) (ix2 0 l) = (show FVec Ideal S8x64 .f32 from m ((c : Thread nD τ).loc main_arg6)) (ix2 n h) := by
  rw [e_b, dif_neg (by omega), dif_neg (by omega)]
  exact bv_at m ρ c _ n h (by simp only []; omega)

/-! ## The rotation's tables -/

theorem e_cf (i : Fin 2048) (l : Fin 512) :
    (show FVec Ideal S2048x512 .f32 from V11 m ρ c main_v59) (ix2 i l)
      = (if h : l.val % 64 < 32 then Cert.Gqa.cosT ((show IVec S2048 32 from m ((c : Thread nD τ).loc main_arg10)) (ix1 i)) ⟨l.val % 64, h⟩
        else Cert.Gqa.cosT ((show IVec S2048 32 from m ((c : Thread nD τ).loc main_arg10)) (ix1 i)) ⟨l.val % 64 - 32, by omega⟩) := by
  have h : V11 m ρ c main_v59 = W3 m ρ c (Proc.devRef .tc main_v59) := by
    show W11 m ρ c _ = _
    rw [W11_of _ _ _ _ (by decide), W10_of _ _ _ _ (by decide), W9_of _ _ _ _ (by decide), W8_of _ _ _ _ (by decide), W7_of _ _ _ _ (by decide), W6_of _ _ _ _ (by decide), W5_of _ _ _ _ (by decide), W4_of _ _ _ _ (by decide)]
  rw [h]
  after_results
  simp -implicitDefEqProofs only [StableHlo.TRef.toBuf, StableHlo.TRef.ofBuf, cast_cast, cast_eq, id_eq]
  pointwise []
  rfl

theorem e_sf (i : Fin 2048) (l : Fin 512) :
    (show FVec Ideal S2048x512 .f32 from V11 m ρ c main_v64) (ix2 i l)
      = (if h : l.val % 64 < 32 then - Cert.Gqa.sinT ((show IVec S2048 32 from m ((c : Thread nD τ).loc main_arg10)) (ix1 i)) ⟨l.val % 64, h⟩
        else Cert.Gqa.sinT ((show IVec S2048 32 from m ((c : Thread nD τ).loc main_arg10)) (ix1 i)) ⟨l.val % 64 - 32, by omega⟩) := by
  have h : V11 m ρ c main_v64 = W3 m ρ c (Proc.devRef .tc main_v64) := by
    show W11 m ρ c _ = _
    rw [W11_of _ _ _ _ (by decide), W10_of _ _ _ _ (by decide), W9_of _ _ _ _ (by decide), W8_of _ _ _ _ (by decide), W7_of _ _ _ _ (by decide), W6_of _ _ _ _ (by decide), W5_of _ _ _ _ (by decide), W4_of _ _ _ _ (by decide)]
  rw [h]
  after_results
  simp -implicitDefEqProofs only [StableHlo.TRef.toBuf, StableHlo.TRef.ofBuf, cast_cast, cast_eq, id_eq]
  pointwise []
  rfl

end Cert.KernelIdeal.Val
-- ==== Proof.HostB.lean ====
/- The operands of the projection call, read at an index in the arguments. -/
module

public import proofs.«01_k».proof.Proof.IdealRun
public import proofs.«01_k».proof.Proof.Bits
public import Idealize.ShloMosaic.Lib.Pipeline.ValueKit

@[expose] public section

set_option maxRecDepth 16384

noncomputable section

open Idealize.ShloMosaic Idealize.ShloMosaic.TcCoe Idealize.SL.Sem

namespace Cert.KernelIdeal.Val

open Cert.KernelIdeal Cert.KernelIdeal.Gen Cert.KernelIdeal.Run

section Any
variable (G : Valuation τ sig (Elt Ideal))

/-- The matrix from the words it compares. -/
theorem g_v83 (a l : Fin 512) : (show FVec Ideal S512x512 .bf16 from StableHlo.after hostOps0_10 G (Proc.devRef .tc main_v83)) (ix2 a l)
    = FloatOps.uitofp (F := Ideal) .bf16 (IntOp.andi ((show IVec S512x512 1 from G (Proc.devRef .tc main_v72)) (ix2 a l))
        (IntOp.cmpi .eq ((show IVec S512x1 32 from G (Proc.devRef .tc main_v74)) (ix2 a 0)) ((show IVec S1x512 32 from G (Proc.devRef .tc main_v78)) (ix2 0 l)))) := by
  after_results
  pointwise []

/-- The first comparison. -/
theorem g_v72 (a l : Fin 512) : (show IVec S512x512 1 from StableHlo.after hostOps0_6 G (Proc.devRef .tc main_v72)) (ix2 a l)
    = IntOp.cmpi .eq ((show IVec S512x1 32 from G (Proc.devRef .tc main_v67)) (ix2 a 0)) ((show IVec S1x512 32 from G (Proc.devRef .tc main_v69)) (ix2 0 l)) := by
  after_results
  pointwise []

end Any

variable (m : (ℓ : Loc nD τ sig) → Buf (Elt Ideal) ℓ) (ρ : Dev nD → PrngReg) (c : Dev nD)

/-- The head of a row. -/
theorem k_v67 (a : Fin 512) : (show IVec S512x1 32 from W4 m ρ c (Proc.devRef .tc main_v67)) (ix2 a 0) = BitVec.ofNat 32 (a.val / 64) := by
  after_results
  simp -implicitDefEqProofs only [StableHlo.TRef.toBuf, StableHlo.TRef.ofBuf, cast_cast, cast_eq, id_eq]
  pointwise []
  revert a
  decide +kernel

/-- The head of a column. -/
theorem k_v69 (a : Fin 512) : (show IVec S1x512 32 from W6 m ρ c (Proc.devRef .tc main_v69)) (ix2 0 a) = BitVec.ofNat 32 (a.val / 64) := by
  after_results
  simp -implicitDefEqProofs only [StableHlo.TRef.toBuf, StableHlo.TRef.ofBuf, cast_cast, cast_eq, id_eq]
  pointwise []
  revert a
  decide +kernel

/-- A row's channel in its head. -/
theorem k_v74 (a : Fin 512) : (show IVec S512x1 32 from W8 m ρ c (Proc.devRef .tc main_v74)) (ix2 a 0) = BitVec.ofNat 32 (a.val % 64) := by
  after_results
  simp -implicitDefEqProofs only [StableHlo.TRef.toBuf, StableHlo.TRef.ofBuf, cast_cast, cast_eq, id_eq]
  pointwise []
  revert a
  decide +kernel

/-- The channel a column's partner has. -/
theorem k_v78 (a : Fin 512) : (show IVec S1x512 32 from W10 m ρ c (Proc.devRef .tc main_v78)) (ix2 0 a) = BitVec.ofNat 32 ((a.val + 32) % 64) := by
  after_results
  simp -implicitDefEqProofs only [StableHlo.TRef.toBuf, StableHlo.TRef.ofBuf, cast_cast, cast_eq, id_eq]
  pointwise []
  revert a
  decide +kernel

/-- The permutation matrix: column `l` picks the row of its partner in the same head. -/
theorem e_pm (a l : Fin 512) :
    (show FVec Ideal S512x512 .bf16 from V11 m ρ c main_v83) (ix2 a l)
      = if a.val / 64 = l.val / 64 ∧ a.val % 64 = (l.val + 32) % 64 then (1 : EReal) else 0 := by
  refine (g_v83 (W10 m ρ c) a l).trans ?_
  have h72 : W10 m ρ c (Proc.devRef .tc main_v72) = W7 m ρ c (Proc.devRef .tc main_v72) := by
    rw [W10_of _ _ _ _ (by decide), W9_of _ _ _ _ (by decide), W8_of _ _ _ _ (by decide)]
  have h74 : W10 m ρ c (Proc.devRef .tc main_v74) = W8 m ρ c (Proc.devRef .tc main_v74) := by
    rw [W10_of _ _ _ _ (by decide), W9_of _ _ _ _ (by decide)]
  have h67 : W6 m ρ c (Proc.devRef .tc main_v67) = W4 m ρ c (Proc.devRef .tc main_v67) := by
    rw [W6_of _ _ _ _ (by decide), W5_of _ _ _ _ (by decide)]
  have e78 := k_v78 m ρ c l
  have e74 := k_v74 m ρ c a
  have e72 := g_v72 (W6 m ρ c) a l
  have e67 := k_v67 m ρ c a
  have e69 := k_v69 m ρ c l
  rw [← h67] at e67
  rw [← h74] at e74
  rw [e67, e69] at e72
  have e72' : (show IVec S512x512 1 from W10 m ρ c (Proc.devRef .tc main_v72)) (ix2 a l) = IntOp.cmpi .eq (BitVec.ofNat 32 (a.val / 64)) (BitVec.ofNat 32 (l.val / 64)) := by rw [h72]; exact e72
  rw [e72', e74, e78]
  have q1 := eq_bit ⟨a.val / 64, by omega⟩ ⟨l.val / 64, by omega⟩
  have q2 := eq_bit ⟨a.val % 64, by omega⟩ ⟨(l.val + 32) % 64, by omega⟩
  simp only [] at q1 q2
  rw [q1, q2]
  by_cases p1 : a.val / 64 = l.val / 64 <;> by_cases p2 : a.val % 64 = (l.val + 32) % 64 <;> simp only [p1, p2, if_true, if_false, and_true, and_false, true_and, false_and]
  all_goals first
    | exact uito_one
    | exact uito_zero

/-- The mask's planes. -/
theorem e_mb (e : Fin 2) (s : Fin 256) (l : Fin 1024) :
    (show FVec Ideal S2x256x1024 .f32 from V17 m ρ c main_v120) (ix3 e s l)
      = if s.val ≤ e.val * 128 + l.val % 128 ∧ e.val * 128 + l.val % 128 < s.val + 128 then (0 : EReal) else Ideal.ofBits .f32 0xFF800000#32 := by
  show (show FVec Ideal S2x256x1024 .f32 from W17 m ρ c (Proc.devRef .tc main_v120)) (ix3 e s l) = _
  after_results
  simp -implicitDefEqProofs only [StableHlo.TRef.toBuf, StableHlo.TRef.ofBuf, cast_cast, cast_eq, id_eq]
  pointwise []
  by_cases he : e.val < 1
  · rw [dif_pos he, win_bit _ _ (by omega) (by omega), show e.val = 0 by omega, Nat.zero_mul, Nat.zero_add]
    split <;> rfl
  · rw [dif_neg he, show IntOp.addi (128#32) (BitVec.ofNat 32 (l.val % 128)) = BitVec.ofNat 32 (128 + l.val % 128) from (BitVec.ofNat_add _ _).symm,
      win_bit _ _ (by omega) (by omega), show e.val = 1 by omega, Nat.one_mul]
    split <;> rfl

/-- The sinks, one per head, repeated along the lanes of the head. -/
theorem e_sk (k : Fin 8) (l : Fin 1024) :
    (show FVec Ideal S8x1x1024 .f32 from V17 m ρ c main_v124) (ix3 k 0 l)
      = (show FVec Ideal S64 .f32 from m ((c : Thread nD τ).loc main_arg9)) (ix1 ⟨k.val * 8 + l.val / 128, by omega⟩) := by
  rw [← W12_args m ρ c main_arg9 (by decide)]
  show (show FVec Ideal S8x1x1024 .f32 from W17 m ρ c (Proc.devRef .tc main_v124)) (ix3 k 0 l) = _
  after_results
  pointwise []

/-- The output projection's rows: head by head, channel by channel. -/
theorem e_wo (i : Fin 4096) (l : Fin 2880) :
    (show FVec Ideal S4096x2880 .bf16 from V17 m ρ c main_v126) (ix2 i l)
      = (show FVec Ideal S64x64x2880 .f32 from m ((c : Thread nD τ).loc main_arg7)) (ix3 ⟨i.val / 64, by omega⟩ ⟨i.val % 64, by omega⟩ l) := by
  rw [← W12_args m ρ c main_arg7 (by decide)]
  show (show FVec Ideal S4096x2880 .bf16 from W17 m ρ c (Proc.devRef .tc main_v126)) (ix2 i l) = _
  after_results
  pointwise []

/-- The bias. -/
theorem e_bo (l : Fin 2880) :
    (show FVec Ideal S1x2880 .f32 from V17 m ρ c main_v127) (ix2 0 l) = (show FVec Ideal S2880 .f32 from m ((c : Thread nD τ).loc main_arg8)) (ix1 l) := by
  rw [← W12_args m ρ c main_arg8 (by decide)]
  show (show FVec Ideal S1x2880 .f32 from W17 m ρ c (Proc.devRef .tc main_v127)) (ix2 0 l) = _
  after_results
  pointwise []

/-- The projections, head by head. -/
theorem e_q4 (i : Fin 2048) (n : Fin 80) (h : Fin 64) :
    (show FVec Ideal S2048x80x1x64 .bf16 from V17 m ρ c main_v86) (ix4 i n 0 h)
      = (show FVec Ideal S2048x5120 .bf16 from (dat0 (V11 m ρ) c).arrAt 6 cfg0.N) (ix2 i ⟨n.val * 64 + h.val, by omega⟩) := by
  rw [← W12_arr m ρ c 6]
  show (show FVec Ideal S2048x80x1x64 .bf16 from W17 m ρ c (Proc.devRef .tc main_v86)) (ix4 i n 0 h) = (show FVec Ideal S2048x5120 .bf16 from W12 m ρ c (Proc.devRef .tc main_v85)) (ix2 i ⟨n.val * 64 + h.val, by omega⟩)
  after_results
  pointwise []

end Cert.KernelIdeal.Val
-- ==== Proof.ProjPoint.lean ====
/- What one point of the projection call writes, at an index. -/
module

public import proofs.«01_k».proof.Proof.IdealProj
public import Idealize.ShloMosaic.Lib.Pipeline.ValueKit

@[expose] public section

set_option maxRecDepth 16384

noncomputable section

open Idealize.ShloMosaic Idealize.ShloMosaic.TcCoe Idealize.SL.Sem

namespace Cert.KernelIdeal.Val

open Cert.KernelIdeal Cert.KernelIdeal.Gen Cert.KernelIdeal.Run

/-- One row of `x` times one column of the weights, and the bias. -/
def hAt (x : FVec Ideal S2048x2880 .bf16) (w : FVec Ideal S2880x512 .bf16) (b : FVec Ideal S1x512 .f32) (i : Fin 2048) (l : Fin 512) : EReal :=
  (∑ d : Fin 2880, x (ix2 i d) * w (ix2 d l)) + b (ix2 0 l)

/-- The tile at an index: the columns before 4608 are rotated, the rest are left. -/
def tileAt (j : Fin 10) (x : FVec Ideal S2048x2880 .bf16) (w : FVec Ideal S2880x512 .bf16) (b : FVec Ideal S1x512 .f32)
    (p : FVec Ideal S512x512 .bf16) (cf sf : FVec Ideal S2048x512 .f32) (i : Fin 2048) (l : Fin 512) : EReal :=
  if j.val < 9 then
    hAt x w b i l * cf (ix2 i l) + (∑ a : Fin 512, hAt x w b i a * p (ix2 a l)) * sf (ix2 i l)
  else hAt x w b i l

/-- The mask of the rotated columns: true in the first nine tiles. -/
theorem mask_bit : ∀ (j : Fin 10) (l : Fin 512), IntOp.cmpi .slt (IntOp.addi (Scalar.muli (BitVec.ofNat 32 j.val) 512#32) (BitVec.ofNat 32 l.val)) 4608#32
    = if j.val < 9 then 1#1 else 0#1 := by
  decide +kernel

/-- The grid's only coordinate is the point. -/
theorem co0 : ∀ t : Fin cfg0.N, (grid0.coords t 0).val = t.val := (by decide +kernel : ∀ t : Fin grid0.N, _)

theorem pay_at (t : Fin cfg0.N) (x : FVec Ideal S2048x2880 .bf16) (w : FVec Ideal S2880x512 .bf16) (b : FVec Ideal S1x512 .f32)
    (p : FVec Ideal S512x512 .bf16) (cf sf : FVec Ideal S2048x512 .f32) (i : Fin 2048) (l : Fin 512) :
    k0_pay1 (F := Ideal) (grid0.coords t) x w b p cf sf (ix2 i l) = tileAt ⟨t.val, t.isLt⟩ x w b p cf sf i l := by
  pointwise [k0_pay1, tileAt, hAt]
  have h := mask_bit ⟨t.val, t.isLt⟩ l
  rw [co0 t]
  simp only [] at h
  rw [h]
  by_cases ht : t.val < 9
  · rw [if_pos ht, if_pos ht]; rfl
  · rw [if_neg ht, if_neg ht]; rfl

variable (V : (c : Dev nD) → (b : Ref sig .tc) → Buf (Elt Ideal) ((c : Thread nD τ).loc b))

/-! Where the windows' blocks lie. -/
theorem idx0_0 : ∀ t : Fin cfg0.N, win0_0.index t = ![0, 0] := (by decide +kernel : ∀ t : Fin grid0.N, _)
theorem idx0_1 : ∀ t : Fin cfg0.N, win0_1.index t = ![0, t.val] := (by decide +kernel : ∀ t : Fin grid0.N, _)
theorem idx0_2 : ∀ t : Fin cfg0.N, win0_2.index t = ![0, t.val] := (by decide +kernel : ∀ t : Fin grid0.N, _)
theorem idx0_3 : ∀ t : Fin cfg0.N, win0_3.index t = ![0, 0] := (by decide +kernel : ∀ t : Fin grid0.N, _)
theorem idx0_4 : ∀ t : Fin cfg0.N, win0_4.index t = ![0, 0] := (by decide +kernel : ∀ t : Fin grid0.N, _)
theorem idx0_5 : ∀ t : Fin cfg0.N, win0_5.index t = ![0, 0] := (by decide +kernel : ∀ t : Fin grid0.N, _)
theorem idx0_6 : ∀ t : Fin cfg0.N, win0_6.index t = ![0, t.val] := (by decide +kernel : ∀ t : Fin grid0.N, _)

theorem lt_l2 (z : S2048x5120.Idx) : (z 1).val < 5120 := (z 1).isLt

/-- The projection's row `i`, column `n`. -/
def hF (c : Dev nD) (i : Fin 2048) (n : Fin 5120) : EReal :=
  (∑ d : Fin 2880, (show FVec Ideal S2048x2880 .bf16 from V c main_v84) (ix2 i d) * (show FVec Ideal S2880x5120 .bf16 from V c main_v8) (ix2 d n))
    + (show FVec Ideal S1x5120 .f32 from V c main_v15) (ix2 0 n)

/-- The array the projection call leaves, at row `i` and lane `l` of tile `t`. -/
def qkvAt (c : Dev nD) (i : Fin 2048) (t : Fin 10) (l : Fin 512) : EReal :=
  if t.val < 9 then
    hF V c i ⟨t.val * 512 + l.val, by omega⟩ * (show FVec Ideal S2048x512 .f32 from V c main_v59) (ix2 i l)
      + (∑ a : Fin 512, hF V c i ⟨t.val * 512 + a.val, by omega⟩ * (show FVec Ideal S512x512 .bf16 from V c main_v83) (ix2 a l))
        * (show FVec Ideal S2048x512 .f32 from V c main_v64) (ix2 i l)
  else hF V c i ⟨t.val * 512 + l.val, by omega⟩

theorem ib0 (c : Dev nD) (t : Fin cfg0.N) (i : Fin 2048) (d : Fin 2880) : (show FVec Ideal S2048x2880 .bf16 from iblk0 V c 0 t) (ix2 i d)
    = (show FVec Ideal S2048x2880 .bf16 from V c main_v84) (ix2 i d) := by
  unfold iblk0
  blk_point [idx0_0 t]

theorem ib1 (c : Dev nD) (t : Fin cfg0.N) (i : Fin 2880) (d : Fin 512) : (show FVec Ideal S2880x512 .bf16 from iblk0 V c 1 t) (ix2 i d)
    = (show FVec Ideal S2880x5120 .bf16 from V c main_v8) (ix2 i ⟨t.val * 512 + d.val, by have : t.val < 10 := t.isLt; omega⟩) := by
  unfold iblk0
  blk_point [idx0_1 t]

theorem ib2 (c : Dev nD) (t : Fin cfg0.N) (i : Fin 1) (d : Fin 512) : (show FVec Ideal S1x512 .f32 from iblk0 V c 2 t) (ix2 i d)
    = (show FVec Ideal S1x5120 .f32 from V c main_v15) (ix2 i ⟨t.val * 512 + d.val, by have : t.val < 10 := t.isLt; omega⟩) := by
  unfold iblk0
  blk_point [idx0_2 t]

theorem ib3 (c : Dev nD) (t : Fin cfg0.N) (i : Fin 2048) (d : Fin 512) : (show FVec Ideal S2048x512 .f32 from iblk0 V c 3 t) (ix2 i d)
    = (show FVec Ideal S2048x512 .f32 from V c main_v59) (ix2 i d) := by
  unfold iblk0
  blk_point [idx0_3 t]

theorem ib4 (c : Dev nD) (t : Fin cfg0.N) (i : Fin 2048) (d : Fin 512) : (show FVec Ideal S2048x512 .f32 from iblk0 V c 4 t) (ix2 i d)
    = (show FVec Ideal S2048x512 .f32 from V c main_v64) (ix2 i d) := by
  unfold iblk0
  blk_point [idx0_4 t]

theorem ib5 (c : Dev nD) (t : Fin cfg0.N) (i : Fin 512) (d : Fin 512) : (show FVec Ideal S512x512 .bf16 from iblk0 V c 5 t) (ix2 i d)
    = (show FVec Ideal S512x512 .bf16 from V c main_v83) (ix2 i d) := by
  unfold iblk0
  blk_point [idx0_5 t]

/-- The whole array. -/
def qkvF (c : Dev nD) (z : S2048x5120.Idx) : EReal := qkvAt V c (z 0) ⟨(z 1).val / 512, by have := lt_l2 z; omega⟩ ⟨(z 1).val % 512, by omega⟩

theorem qkvF_at (c : Dev nD) (i : Fin 2048) (t : Fin 10) (l : Fin 512) (n : Fin 5120) (hn : n.val = t.val * 512 + l.val) :
    qkvF V c (ix2 i n) = qkvAt V c i t l := by
  show qkvAt V c i ⟨n.val / 512, _⟩ ⟨n.val % 512, _⟩ = _
  rw [show (⟨n.val / 512, by omega⟩ : Fin 10) = t from Fin.ext (by simp only []; omega),
    show (⟨n.val % 512, by omega⟩ : Fin 512) = l from Fin.ext (by simp only []; omega)]

theorem arr0 (c : Dev nD) : (dat0 V c).arrAt 6 cfg0.N = qkvF V c := by
  refine (dat0 V c).arrAt_eq_of_covers 6 _ (by decide +kernel) fun t hf y => ?_
  blk_simp
  rw [after0_6]
  frame_out
  idx_vars y
  rw [pay_at]
  have ht : t.val < 10 := t.isLt
  rw [show (((View.whole main_v85).slice (win0_6.rect t)).emb (ix2 y0 y1)) = (ix2 y0 ⟨t.val * 512 + y1.val, by omega⟩ : S2048x5120.Idx) from by
    blk_ext [idx0_6 t]]
  rw [qkvF_at V c y0 ⟨t.val, ht⟩ y1 _ rfl]
  unfold qkvAt tileAt hAt hF
  simp only [show ∀ i d, (iblk0 V c 0 t : S2048x2880.Idx → EReal) (ix2 i d) = _ from ib0 V c t, show ∀ i d, (iblk0 V c 1 t : S2880x512.Idx → EReal) (ix2 i d) = _ from ib1 V c t,
    show ∀ i d, (iblk0 V c 2 t : S1x512.Idx → EReal) (ix2 i d) = _ from ib2 V c t, show ∀ i d, (iblk0 V c 3 t : S2048x512.Idx → EReal) (ix2 i d) = _ from ib3 V c t,
    show ∀ i d, (iblk0 V c 4 t : S2048x512.Idx → EReal) (ix2 i d) = _ from ib4 V c t, show ∀ i d, (iblk0 V c 5 t : S512x512.Idx → EReal) (ix2 i d) = _ from ib5 V c t]

end Cert.KernelIdeal.Val
-- ==== Proof.QkvOut.lean ====
/- The operands of the projection call, read at an index in the arguments. -/
module

public import proofs.«01_k».proof.Proof.IdealRun
public import proofs.«01_k».proof.Proof.HostA
public import proofs.«01_k».proof.Proof.HostB
public import proofs.«01_k».proof.Proof.ProjPoint
public import Idealize.ShloMosaic.Lib.Pipeline.ValueKit

@[expose] public section

set_option maxRecDepth 16384

noncomputable section

open Idealize.ShloMosaic Idealize.ShloMosaic.TcCoe Idealize.SL.Sem

namespace Cert.KernelIdeal.Val

open Cert.KernelIdeal Cert.KernelIdeal.Gen Cert.KernelIdeal.Run

variable (m : (ℓ : Loc nD τ sig) → Buf (Elt Ideal) ℓ) (ρ : Dev nD → PrngReg) (c : Dev nD)

/-- The kernel's arguments. -/
def args : Cert.Gqa.Args where
  x := fun i d => (show FVec Ideal S2048x2880 .f32 from m ((c : Thread nD τ).loc main_arg0)) (ix2 i d)
  wq := fun d n h => (show FVec Ideal S2880x64x64 .f32 from m ((c : Thread nD τ).loc main_arg1)) (ix3 d n h)
  bq := fun n h => (show FVec Ideal S64x64 .f32 from m ((c : Thread nD τ).loc main_arg2)) (ix2 n h)
  wk := fun d n h => (show FVec Ideal S2880x8x64 .f32 from m ((c : Thread nD τ).loc main_arg3)) (ix3 d n h)
  bk := fun n h => (show FVec Ideal S8x64 .f32 from m ((c : Thread nD τ).loc main_arg4)) (ix2 n h)
  wv := fun d n h => (show FVec Ideal S2880x8x64 .f32 from m ((c : Thread nD τ).loc main_arg5)) (ix3 d n h)
  bv := fun n h => (show FVec Ideal S8x64 .f32 from m ((c : Thread nD τ).loc main_arg6)) (ix2 n h)
  wo := fun n h d => (show FVec Ideal S64x64x2880 .f32 from m ((c : Thread nD τ).loc main_arg7)) (ix3 n h d)
  bo := fun d => (show FVec Ideal S2880 .f32 from m ((c : Thread nD τ).loc main_arg8)) (ix1 d)
  sk := fun n => (show FVec Ideal S64 .f32 from m ((c : Thread nD τ).loc main_arg9)) (ix1 n)
  ps := fun i => (show IVec S2048 32 from m ((c : Thread nD τ).loc main_arg10)) (ix1 i)

/-! ## The projection's columns -/

theorem h_q (i : Fin 2048) (n h : Fin 64) (l : Fin 5120) (hl : l.val = n.val * 64 + h.val) :
    hF (V11 m ρ) c i l = (args m c).q i n h * Cert.Gqa.c8 := by
  unfold hF
  rw [e_bq m ρ c n h l hl]
  simp only [e_wq m ρ c _ n h l hl, e_x]
  exact Cert.Gqa.proj_c8 ((args m c).x i) (fun d => (args m c).wq d n h) _

theorem h_k (i : Fin 2048) (n : Fin 8) (h : Fin 64) (l : Fin 5120) (hl : l.val = 4096 + n.val * 64 + h.val) :
    hF (V11 m ρ) c i l = (args m c).k i n h := by
  unfold hF
  rw [e_bk m ρ c n h l hl]
  simp only [e_wk m ρ c _ n h l hl, e_x]
  rfl

theorem h_v (i : Fin 2048) (n : Fin 8) (h : Fin 64) (l : Fin 5120) (hl : l.val = 4608 + n.val * 64 + h.val) :
    hF (V11 m ρ) c i l = (args m c).v i n h := by
  unfold hF
  rw [e_bv m ρ c n h l hl]
  simp only [e_wv m ρ c _ n h l hl, e_x]
  rfl

/-! ## The rotation in a tile -/

/-- Values and partners of one head, multiplied by the tables, are the rotation. -/
theorem rope_of (f : Fin 64 → EReal) (C S : Fin 32 → EReal) (h h' : Fin 64) (hh : h'.val = (h.val + 32) % 64) :
    f h * (if hl : h.val < 32 then C ⟨h.val, hl⟩ else C ⟨h.val - 32, by omega⟩)
      + f h' * (if hl : h.val < 32 then - S ⟨h.val, hl⟩ else S ⟨h.val - 32, by omega⟩) = Cert.Gqa.rope f C S h := by
  unfold Cert.Gqa.rope
  split
  · next hl =>
    rw [mul_neg, ← sub_eq_add_neg, show h' = ⟨h.val + 32, by omega⟩ from Fin.ext (by simp only []; omega)]
  · next hl =>
    rw [show h' = ⟨h.val - 32, by omega⟩ from Fin.ext (by simp only []; omega)]

theorem tile_rope (i : Fin 2048) (t : Fin 10) (ht : t.val < 9) (l : Fin 512) (f : Fin 64 → EReal)
    (hf : ∀ (h : Fin 64) (n : Fin 5120), n.val = t.val * 512 + l.val / 64 * 64 + h.val → hF (V11 m ρ) c i n = f h) :
    qkvAt (V11 m ρ) c i t l = Cert.Gqa.rope f (Cert.Gqa.cosT ((args m c).ps i)) (Cert.Gqa.sinT ((args m c).ps i)) ⟨l.val % 64, by omega⟩ := by
  unfold qkvAt
  rw [if_pos ht, e_cf, e_sf]
  simp only [fun a => show (V11 m ρ c main_v83 : S512x512.Idx → EReal) (ix2 a l) = _ from e_pm m ρ c a l]
  rw [Cert.Gqa.sum_pick (fun a : Fin 512 => hF (V11 m ρ) c i ⟨t.val * 512 + a.val, by omega⟩) (fun a : Fin 512 => a.val / 64 = l.val / 64 ∧ a.val % 64 = (l.val + 32) % 64)
    ⟨l.val / 64 * 64 + (l.val + 32) % 64, by omega⟩ (fun b => by rw [Fin.ext_iff]; simp only []; omega)]
  rw [hf ⟨l.val % 64, by omega⟩ _ (by simp only []; omega), hf ⟨(l.val + 32) % 64, by omega⟩ _ (by simp only []; omega)]
  exact rope_of f _ _ ⟨l.val % 64, by omega⟩ ⟨(l.val + 32) % 64, by omega⟩ (by simp only []; omega)

/-! ## The projection call's array -/

theorem q_at (i : Fin 2048) (n h : Fin 64) (l : Fin 5120) (hl : l.val = n.val * 64 + h.val) :
    (dat0 (V11 m ρ) c).arrAt 6 cfg0.N (ix2 i l : S2048x5120.Idx) = (args m c).qr i n h * Cert.Gqa.c8 := by
  rw [arr0, qkvF_at _ c i ⟨l.val / 512, by omega⟩ ⟨l.val % 512, by omega⟩ l (by simp only []; omega),
    tile_rope m ρ c i _ (by simp only []; omega) _ (fun a => (args m c).q i n a * Cert.Gqa.c8) (fun a n' hn => h_q m ρ c i n a n' (by simp only [] at hn; omega)),
    Cert.Gqa.rope_c8, show (⟨l.val % 512 % 64, by omega⟩ : Fin 64) = h from Fin.ext (by simp only []; omega)]
  rfl

theorem k_at (i : Fin 2048) (n : Fin 8) (h : Fin 64) (l : Fin 5120) (hl : l.val = 4096 + n.val * 64 + h.val) :
    (dat0 (V11 m ρ) c).arrAt 6 cfg0.N (ix2 i l : S2048x5120.Idx) = (args m c).kr i n h := by
  rw [arr0, qkvF_at _ c i ⟨l.val / 512, by omega⟩ ⟨l.val % 512, by omega⟩ l (by simp only []; omega),
    tile_rope m ρ c i _ (by simp only []; omega) _ (fun a => (args m c).k i n a) (fun a n' hn => h_k m ρ c i n a n' (by simp only [] at hn; omega)),
    show (⟨l.val % 512 % 64, by omega⟩ : Fin 64) = h from Fin.ext (by simp only []; omega)]
  rfl

theorem v_at (i : Fin 2048) (n : Fin 8) (h : Fin 64) (l : Fin 5120) (hl : l.val = 4608 + n.val * 64 + h.val) :
    (dat0 (V11 m ρ) c).arrAt 6 cfg0.N (ix2 i l : S2048x5120.Idx) = (args m c).v i n h := by
  rw [arr0, qkvF_at _ c i ⟨l.val / 512, by omega⟩ ⟨l.val % 512, by omega⟩ l (by simp only []; omega)]
  unfold qkvAt
  rw [if_neg (by simp only []; omega)]
  exact h_v m ρ c i n h _ (by simp only []; omega)

end Cert.KernelIdeal.Val
-- ==== Proof.AttnSpec.lean ====
/- One block of queries, in formulas: the scores of a query against a span of keys, their maximum with the sink, and the weighted sum of the
   values over the softmax's denominator. -/
module

public import proofs.«01_k».proof.Proof.Gen.KernelIdeal.Skeleton
public import Idealize.ShloMosaic.Lib.Pointwise

@[expose] public section

set_option maxRecDepth 16384

noncomputable section

open Idealize.ShloMosaic Idealize.ShloMosaic.TcCoe Idealize.SL.Sem

namespace Cert.KernelIdeal.Val

open Cert.KernelIdeal Cert.KernelIdeal.Gen

variable (q : FVec Ideal S512x8x1x64 .bf16) (k v : FVec Ideal S512x1x1x64 .bf16) (mb : FVec Ideal S1x256x1024 .f32)
  (sk : FVec Ideal S1x1x1024 .f32)

/-- The score of query `i` of head `g` against the key at place `s` of the span, the mask's bias added. -/
def bSt (i : Fin 512) (key : Fin 256 → Fin 512) (g : Fin 8) (l : Fin 1024) (s : Fin 256) : EReal :=
  (∑ d : Fin 64, k (ix4 (key s) 0 0 d) * q (ix4 i g 0 d)) + mb (ix3 0 s l)

/-- The greatest score of the span, or the sink's. -/
def bMx (i : Fin 512) (key : Fin 256 → Fin 512) (g : Fin 8) (l : Fin 1024) : EReal :=
  max (Finset.univ.fold max (Ideal.ofBits .f32 0xFF800000#32) fun s => bSt q k mb i key g l s) (sk (ix3 0 0 l))

/-- The block's attention output at channel `h`. -/
def bOut (i : Fin 512) (key : Fin 256 → Fin 512) (g : Fin 8) (l : Fin 1024) (h : Fin 64) : EReal :=
  Ideal.div (∑ s : Fin 256, v (ix4 (key s) 0 0 h) * Ideal.exp (bSt q k mb i key g l s - bMx q k mb sk i key g l))
    (Ideal.exp (sk (ix3 0 0 l) - bMx q k mb sk i key g l)
      + ∑ s : Fin 256, Ideal.exp (bSt q k mb i key g l s - bMx q k mb sk i key g l))

end Cert.KernelIdeal.Val
-- ==== Proof.Chunks.lean ====
/- The four chunks of 128 queries of the attention body: each computes the formula of `bOut` at its own queries and span of keys. -/
module

public import proofs.«01_k».proof.Proof.AttnSpec
public import Idealize.ShloMosaic.Lib.Pipeline.ValueKit
@[expose] public section
set_option maxRecDepth 16384
noncomputable section
open Idealize.ShloMosaic Idealize.ShloMosaic.TcCoe Idealize.SL.Sem
namespace Cert.KernelIdeal.Val
open Cert.KernelIdeal Cert.KernelIdeal.Gen
variable (q : FVec Ideal S512x8x1x64 .bf16) (k v : FVec Ideal S512x1x1x64 .bf16) (mb : FVec Ideal S1x256x1024 .f32)
  (sk : FVec Ideal S1x1x1024 .f32)
/-- The first chunk's scores. -/
theorem st0 (s : Fin 256) (l : Fin 1024) : k1_pay8 (F := Ideal) k q mb (ix2 s l)
    = bSt q k mb ⟨0 + l.val % 128, by omega⟩ (fun s => ⟨0 + s.val, by omega⟩) ⟨l.val / 128, by omega⟩ l s := by
  pointwise [k1_pay8, k1_pay4, k1_pay6, bSt]
  blk_point []

/-- The third chunk's scores. -/
theorem st2 (s : Fin 256) (l : Fin 1024) : k1_pay31 (F := Ideal) (k1_pay4 k) (k1_pay6 q) mb (ix2 s l)
    = bSt q k mb ⟨256 + l.val % 128, by omega⟩ (fun s => ⟨128 + s.val, by omega⟩) ⟨l.val / 128, by omega⟩ l s := by
  pointwise [k1_pay31, k1_pay4, k1_pay6, bSt]
  blk_point []

/-- The first chunk's output. -/
theorem out0 (h : Fin 64) (l : Fin 1024) :
    k1_pay11 (F := Ideal) (k1_pay7 sk) (k1_pay9 k q sk mb) (k1_pay10 k v q sk mb) (ix2 h l)
    = bOut q k v mb sk ⟨0 + l.val % 128, by omega⟩ (fun s => ⟨0 + s.val, by omega⟩) ⟨l.val / 128, by omega⟩ l h := by
  pointwise [k1_pay11, k1_pay7, k1_pay9, k1_pay10, k1_pay5, bOut, bMx, st0]

/-- The second chunk's output. -/
theorem out1 (h : Fin 64) (l : Fin 1024) :
    k1_pay21 (F := Ideal) (k1_pay4 k) (k1_pay5 v) (k1_pay6 q) (k1_pay7 sk) mb (ix2 h l)
    = bOut q k v mb sk ⟨128 + l.val % 128, by omega⟩ (fun s => ⟨0 + s.val, by omega⟩) ⟨l.val / 128, by omega⟩ l h := by
  pointwise [k1_pay21, k1_pay4, k1_pay5, k1_pay6, k1_pay7, bOut, bMx, bSt]
  blk_point []

/-- The third chunk's output. -/
theorem out2 (h : Fin 64) (l : Fin 1024) :
    k1_pay32 (F := Ideal) (k1_pay5 v) (k1_pay7 sk) (k1_pay31 (k1_pay4 k) (k1_pay6 q) mb) (ix2 h l)
    = bOut q k v mb sk ⟨256 + l.val % 128, by omega⟩ (fun s => ⟨128 + s.val, by omega⟩) ⟨l.val / 128, by omega⟩ l h := by
  pointwise [k1_pay32, k1_pay7, k1_pay5, bOut, bMx, st2]

/-- The fourth chunk's output. -/
theorem out3 (h : Fin 64) (l : Fin 1024) :
    k1_pay42 (F := Ideal) (k1_pay4 k) (k1_pay5 v) (k1_pay6 q) (k1_pay7 sk) mb (ix2 h l)
    = bOut q k v mb sk ⟨384 + l.val % 128, by omega⟩ (fun s => ⟨256 + s.val, by omega⟩) ⟨l.val / 128, by omega⟩ l h := by
  pointwise [k1_pay42, k1_pay4, k1_pay5, k1_pay6, k1_pay7, bOut, bMx, bSt]
  blk_point []

end Cert.KernelIdeal.Val
-- ==== Proof.Scratch.lean ====
/- The scratch of the attention body: thirty-two stores, one per chunk of queries and head, read back as one array. -/
module

public import proofs.«01_k».proof.Proof.Chunks

@[expose] public section

set_option maxRecDepth 16384

noncomputable section

open Idealize.ShloMosaic Idealize.ShloMosaic.TcCoe Idealize.SL.Sem

namespace Cert.KernelIdeal.Val

open Cert.KernelIdeal Cert.KernelIdeal.Gen

/-- One of the two planes of the mask's bias. -/
def mbAt (M : FVec Ideal S2x256x1024 .f32) (e : Fin 2) : FVec Ideal S1x256x1024 .f32 := fun x => M (ix3 e (x 1) (x 2))

/-- The first key of the span that a query's chunk attends to. -/
def lo (i : Fin 512) : ℕ := (i.val / 128 - 1) * 128

/-- Row `g · 64 + h`, column `i`: channel `h` of head `g`'s output for query `i`. -/
def ascV (q : FVec Ideal S512x8x1x64 .bf16) (k v : FVec Ideal S512x1x1x64 .bf16) (M : FVec Ideal S2x256x1024 .f32)
    (sk : FVec Ideal S1x1x1024 .f32) (r i : Fin 512) : EReal :=
  bOut q k v (mbAt M (if i.val < 128 then 0 else 1)) sk i (fun s => ⟨lo i + s.val, by unfold lo; omega⟩) ⟨r.val / 64, by omega⟩
    ⟨r.val / 64 * 128 + i.val % 128, by omega⟩ ⟨r.val % 64, by omega⟩

theorem bOut_congr {q : FVec Ideal S512x8x1x64 .bf16} {k v : FVec Ideal S512x1x1x64 .bf16} {mb mb' : FVec Ideal S1x256x1024 .f32}
    {sk : FVec Ideal S1x1x1024 .f32} {i i' : Fin 512} {key key' : Fin 256 → Fin 512} {g g' : Fin 8} {l l' : Fin 1024} {h h' : Fin 64}
    (hmb : ∀ s l, mb (ix3 0 s l) = mb' (ix3 0 s l)) (hi : i.val = i'.val) (hkey : ∀ s, (key s).val = (key' s).val)
    (hg : g.val = g'.val) (hl : l.val = l'.val) (hh : h.val = h'.val) :
    bOut q k v mb sk i key g l h = bOut q k v mb' sk i' key' g' l' h' := by
  obtain rfl := Fin.ext hi; obtain rfl := Fin.ext hg; obtain rfl := Fin.ext hl; obtain rfl := Fin.ext hh
  obtain rfl : key = key' := funext fun s => Fin.ext (hkey s)
  simp only [bOut, bMx, bSt, hmb]

/-- The stores into the scratch, the last first. -/
def ascL (q : FVec Ideal S512x8x1x64 .bf16) (k v : FVec Ideal S512x1x1x64 .bf16) (M : FVec Ideal S2x256x1024 .f32)
    (sk : FVec Ideal S1x1x1024 .f32) : List (View.Piece (Elt Ideal) S512x512 .bf16) :=
  [⟨Rect.unit (s := S512x512) ![448, 384] ![64, 128] inb_S512x512_S64x128_448_384, k1_pay51 (F := Ideal) (k1_pay42 (F := Ideal) (k1_pay4 (F := Ideal) k) (k1_pay5 (F := Ideal) v) (k1_pay6 (F := Ideal) q) (k1_pay7 (F := Ideal) sk) (View.ld (Val := Elt Ideal) (e' := .f32) M (Rect.unit (s := S2x256x1024) ![1, 0, 0] ![1, 256, 1024] inb_S2x256x1024_S1x256x1024_1_0_0)))⟩,
   ⟨Rect.unit (s := S512x512) ![384, 384] ![64, 128] inb_S512x512_S64x128_384_384, k1_pay50 (F := Ideal) (k1_pay42 (F := Ideal) (k1_pay4 (F := Ideal) k) (k1_pay5 (F := Ideal) v) (k1_pay6 (F := Ideal) q) (k1_pay7 (F := Ideal) sk) (View.ld (Val := Elt Ideal) (e' := .f32) M (Rect.unit (s := S2x256x1024) ![1, 0, 0] ![1, 256, 1024] inb_S2x256x1024_S1x256x1024_1_0_0)))⟩,
   ⟨Rect.unit (s := S512x512) ![320, 384] ![64, 128] inb_S512x512_S64x128_320_384, k1_pay49 (F := Ideal) (k1_pay42 (F := Ideal) (k1_pay4 (F := Ideal) k) (k1_pay5 (F := Ideal) v) (k1_pay6 (F := Ideal) q) (k1_pay7 (F := Ideal) sk) (View.ld (Val := Elt Ideal) (e' := .f32) M (Rect.unit (s := S2x256x1024) ![1, 0, 0] ![1, 256, 1024] inb_S2x256x1024_S1x256x1024_1_0_0)))⟩,
   ⟨Rect.unit (s := S512x512) ![256, 384] ![64, 128] inb_S512x512_S64x128_256_384, k1_pay48 (F := Ideal) (k1_pay42 (F := Ideal) (k1_pay4 (F := Ideal) k) (k1_pay5 (F := Ideal) v) (k1_pay6 (F := Ideal) q) (k1_pay7 (F := Ideal) sk) (View.ld (Val := Elt Ideal) (e' := .f32) M (Rect.unit (s := S2x256x1024) ![1, 0, 0] ![1, 256, 1024] inb_S2x256x1024_S1x256x1024_1_0_0)))⟩,
   ⟨Rect.unit (s := S512x512) ![192, 384] ![64, 128] inb_S512x512_S64x128_192_384, k1_pay47 (F := Ideal) (k1_pay42 (F := Ideal) (k1_pay4 (F := Ideal) k) (k1_pay5 (F := Ideal) v) (k1_pay6 (F := Ideal) q) (k1_pay7 (F := Ideal) sk) (View.ld (Val := Elt Ideal) (e' := .f32) M (Rect.unit (s := S2x256x1024) ![1, 0, 0] ![1, 256, 1024] inb_S2x256x1024_S1x256x1024_1_0_0)))⟩,
   ⟨Rect.unit (s := S512x512) ![128, 384] ![64, 128] inb_S512x512_S64x128_128_384, k1_pay46 (F := Ideal) (k1_pay42 (F := Ideal) (k1_pay4 (F := Ideal) k) (k1_pay5 (F := Ideal) v) (k1_pay6 (F := Ideal) q) (k1_pay7 (F := Ideal) sk) (View.ld (Val := Elt Ideal) (e' := .f32) M (Rect.unit (s := S2x256x1024) ![1, 0, 0] ![1, 256, 1024] inb_S2x256x1024_S1x256x1024_1_0_0)))⟩,
   ⟨Rect.unit (s := S512x512) ![64, 384] ![64, 128] inb_S512x512_S64x128_64_384, k1_pay45 (F := Ideal) (k1_pay42 (F := Ideal) (k1_pay4 (F := Ideal) k) (k1_pay5 (F := Ideal) v) (k1_pay6 (F := Ideal) q) (k1_pay7 (F := Ideal) sk) (View.ld (Val := Elt Ideal) (e' := .f32) M (Rect.unit (s := S2x256x1024) ![1, 0, 0] ![1, 256, 1024] inb_S2x256x1024_S1x256x1024_1_0_0)))⟩,
   ⟨Rect.unit (s := S512x512) ![0, 384] ![64, 128] inb_S512x512_S64x128_0_384, k1_pay44 (F := Ideal) (k1_pay43 (F := Ideal) (k1_pay4 (F := Ideal) k) (k1_pay5 (F := Ideal) v) (k1_pay6 (F := Ideal) q) (k1_pay7 (F := Ideal) sk) (View.ld (Val := Elt Ideal) (e' := .f32) M (Rect.unit (s := S2x256x1024) ![1, 0, 0] ![1, 256, 1024] inb_S2x256x1024_S1x256x1024_1_0_0)))⟩,
   ⟨Rect.unit (s := S512x512) ![448, 256] ![64, 128] inb_S512x512_S64x128_448_256, k1_pay41 (F := Ideal) (k1_pay32 (F := Ideal) (k1_pay5 (F := Ideal) v) (k1_pay7 (F := Ideal) sk) (k1_pay31 (F := Ideal) (k1_pay4 (F := Ideal) k) (k1_pay6 (F := Ideal) q) (View.ld (Val := Elt Ideal) (e' := .f32) M (Rect.unit (s := S2x256x1024) ![1, 0, 0] ![1, 256, 1024] inb_S2x256x1024_S1x256x1024_1_0_0))))⟩,
   ⟨Rect.unit (s := S512x512) ![384, 256] ![64, 128] inb_S512x512_S64x128_384_256, k1_pay40 (F := Ideal) (k1_pay32 (F := Ideal) (k1_pay5 (F := Ideal) v) (k1_pay7 (F := Ideal) sk) (k1_pay31 (F := Ideal) (k1_pay4 (F := Ideal) k) (k1_pay6 (F := Ideal) q) (View.ld (Val := Elt Ideal) (e' := .f32) M (Rect.unit (s := S2x256x1024) ![1, 0, 0] ![1, 256, 1024] inb_S2x256x1024_S1x256x1024_1_0_0))))⟩,
   ⟨Rect.unit (s := S512x512) ![320, 256] ![64, 128] inb_S512x512_S64x128_320_256, k1_pay39 (F := Ideal) (k1_pay38 (F := Ideal) (k1_pay5 (F := Ideal) v) (k1_pay7 (F := Ideal) sk) (k1_pay31 (F := Ideal) (k1_pay4 (F := Ideal) k) (k1_pay6 (F := Ideal) q) (View.ld (Val := Elt Ideal) (e' := .f32) M (Rect.unit (s := S2x256x1024) ![1, 0, 0] ![1, 256, 1024] inb_S2x256x1024_S1x256x1024_1_0_0))))⟩,
   ⟨Rect.unit (s := S512x512) ![256, 256] ![64, 128] inb_S512x512_S64x128_256_256, k1_pay37 (F := Ideal) (k1_pay5 (F := Ideal) v) (k1_pay7 (F := Ideal) sk) (k1_pay31 (F := Ideal) (k1_pay4 (F := Ideal) k) (k1_pay6 (F := Ideal) q) (View.ld (Val := Elt Ideal) (e' := .f32) M (Rect.unit (s := S2x256x1024) ![1, 0, 0] ![1, 256, 1024] inb_S2x256x1024_S1x256x1024_1_0_0)))⟩,
   ⟨Rect.unit (s := S512x512) ![192, 256] ![64, 128] inb_S512x512_S64x128_192_256, k1_pay36 (F := Ideal) (k1_pay5 (F := Ideal) v) (k1_pay7 (F := Ideal) sk) (k1_pay31 (F := Ideal) (k1_pay4 (F := Ideal) k) (k1_pay6 (F := Ideal) q) (View.ld (Val := Elt Ideal) (e' := .f32) M (Rect.unit (s := S2x256x1024) ![1, 0, 0] ![1, 256, 1024] inb_S2x256x1024_S1x256x1024_1_0_0)))⟩,
   ⟨Rect.unit (s := S512x512) ![128, 256] ![64, 128] inb_S512x512_S64x128_128_256, k1_pay35 (F := Ideal) (k1_pay5 (F := Ideal) v) (k1_pay7 (F := Ideal) sk) (k1_pay31 (F := Ideal) (k1_pay4 (F := Ideal) k) (k1_pay6 (F := Ideal) q) (View.ld (Val := Elt Ideal) (e' := .f32) M (Rect.unit (s := S2x256x1024) ![1, 0, 0] ![1, 256, 1024] inb_S2x256x1024_S1x256x1024_1_0_0)))⟩,
   ⟨Rect.unit (s := S512x512) ![64, 256] ![64, 128] inb_S512x512_S64x128_64_256, k1_pay34 (F := Ideal) (k1_pay5 (F := Ideal) v) (k1_pay7 (F := Ideal) sk) (k1_pay31 (F := Ideal) (k1_pay4 (F := Ideal) k) (k1_pay6 (F := Ideal) q) (View.ld (Val := Elt Ideal) (e' := .f32) M (Rect.unit (s := S2x256x1024) ![1, 0, 0] ![1, 256, 1024] inb_S2x256x1024_S1x256x1024_1_0_0)))⟩,
   ⟨Rect.unit (s := S512x512) ![0, 256] ![64, 128] inb_S512x512_S64x128_0_256, k1_pay33 (F := Ideal) (k1_pay5 (F := Ideal) v) (k1_pay7 (F := Ideal) sk) (k1_pay31 (F := Ideal) (k1_pay4 (F := Ideal) k) (k1_pay6 (F := Ideal) q) (View.ld (Val := Elt Ideal) (e' := .f32) M (Rect.unit (s := S2x256x1024) ![1, 0, 0] ![1, 256, 1024] inb_S2x256x1024_S1x256x1024_1_0_0)))⟩,
   ⟨Rect.unit (s := S512x512) ![448, 128] ![64, 128] inb_S512x512_S64x128_448_128, k1_pay30 (F := Ideal) (k1_pay21 (F := Ideal) (k1_pay4 (F := Ideal) k) (k1_pay5 (F := Ideal) v) (k1_pay6 (F := Ideal) q) (k1_pay7 (F := Ideal) sk) (View.ld (Val := Elt Ideal) (e' := .f32) M (Rect.unit (s := S2x256x1024) ![1, 0, 0] ![1, 256, 1024] inb_S2x256x1024_S1x256x1024_1_0_0)))⟩,
   ⟨Rect.unit (s := S512x512) ![384, 128] ![64, 128] inb_S512x512_S64x128_384_128, k1_pay29 (F := Ideal) (k1_pay21 (F := Ideal) (k1_pay4 (F := Ideal) k) (k1_pay5 (F := Ideal) v) (k1_pay6 (F := Ideal) q) (k1_pay7 (F := Ideal) sk) (View.ld (Val := Elt Ideal) (e' := .f32) M (Rect.unit (s := S2x256x1024) ![1, 0, 0] ![1, 256, 1024] inb_S2x256x1024_S1x256x1024_1_0_0)))⟩,
   ⟨Rect.unit (s := S512x512) ![320, 128] ![64, 128] inb_S512x512_S64x128_320_128, k1_pay28 (F := Ideal) (k1_pay21 (F := Ideal) (k1_pay4 (F := Ideal) k) (k1_pay5 (F := Ideal) v) (k1_pay6 (F := Ideal) q) (k1_pay7 (F := Ideal) sk) (View.ld (Val := Elt Ideal) (e' := .f32) M (Rect.unit (s := S2x256x1024) ![1, 0, 0] ![1, 256, 1024] inb_S2x256x1024_S1x256x1024_1_0_0)))⟩,
   ⟨Rect.unit (s := S512x512) ![256, 128] ![64, 128] inb_S512x512_S64x128_256_128, k1_pay27 (F := Ideal) (k1_pay21 (F := Ideal) (k1_pay4 (F := Ideal) k) (k1_pay5 (F := Ideal) v) (k1_pay6 (F := Ideal) q) (k1_pay7 (F := Ideal) sk) (View.ld (Val := Elt Ideal) (e' := .f32) M (Rect.unit (s := S2x256x1024) ![1, 0, 0] ![1, 256, 1024] inb_S2x256x1024_S1x256x1024_1_0_0)))⟩,
   ⟨Rect.unit (s := S512x512) ![192, 128] ![64, 128] inb_S512x512_S64x128_192_128, k1_pay26 (F := Ideal) (k1_pay21 (F := Ideal) (k1_pay4 (F := Ideal) k) (k1_pay5 (F := Ideal) v) (k1_pay6 (F := Ideal) q) (k1_pay7 (F := Ideal) sk) (View.ld (Val := Elt Ideal) (e' := .f32) M (Rect.unit (s := S2x256x1024) ![1, 0, 0] ![1, 256, 1024] inb_S2x256x1024_S1x256x1024_1_0_0)))⟩,
   ⟨Rect.unit (s := S512x512) ![128, 128] ![64, 128] inb_S512x512_S64x128_128_128, k1_pay25 (F := Ideal) (k1_pay24 (F := Ideal) (k1_pay4 (F := Ideal) k) (k1_pay5 (F := Ideal) v) (k1_pay6 (F := Ideal) q) (k1_pay7 (F := Ideal) sk) (View.ld (Val := Elt Ideal) (e' := .f32) M (Rect.unit (s := S2x256x1024) ![1, 0, 0] ![1, 256, 1024] inb_S2x256x1024_S1x256x1024_1_0_0)))⟩,
   ⟨Rect.unit (s := S512x512) ![64, 128] ![64, 128] inb_S512x512_S64x128_64_128, k1_pay23 (F := Ideal) (k1_pay4 (F := Ideal) k) (k1_pay5 (F := Ideal) v) (k1_pay6 (F := Ideal) q) (k1_pay7 (F := Ideal) sk) (View.ld (Val := Elt Ideal) (e' := .f32) M (Rect.unit (s := S2x256x1024) ![1, 0, 0] ![1, 256, 1024] inb_S2x256x1024_S1x256x1024_1_0_0))⟩,
   ⟨Rect.unit (s := S512x512) ![0, 128] ![64, 128] inb_S512x512_S64x128_0_128, k1_pay22 (F := Ideal) (k1_pay4 (F := Ideal) k) (k1_pay5 (F := Ideal) v) (k1_pay6 (F := Ideal) q) (k1_pay7 (F := Ideal) sk) (View.ld (Val := Elt Ideal) (e' := .f32) M (Rect.unit (s := S2x256x1024) ![1, 0, 0] ![1, 256, 1024] inb_S2x256x1024_S1x256x1024_1_0_0))⟩,
   ⟨Rect.unit (s := S512x512) ![448, 0] ![64, 128] inb_S512x512_S64x128_448_0, k1_pay20 (F := Ideal) (k1_pay19 (F := Ideal) (k1_pay7 (F := Ideal) sk) (k1_pay9 (F := Ideal) k q sk (View.ld (Val := Elt Ideal) (e' := .f32) M (Rect.unit (s := S2x256x1024) ![0, 0, 0] ![1, 256, 1024] inb_S2x256x1024_S1x256x1024_0_0_0))) (k1_pay10 (F := Ideal) k v q sk (View.ld (Val := Elt Ideal) (e' := .f32) M (Rect.unit (s := S2x256x1024) ![0, 0, 0] ![1, 256, 1024] inb_S2x256x1024_S1x256x1024_0_0_0))))⟩,
   ⟨Rect.unit (s := S512x512) ![384, 0] ![64, 128] inb_S512x512_S64x128_384_0, k1_pay18 (F := Ideal) (k1_pay7 (F := Ideal) sk) (k1_pay9 (F := Ideal) k q sk (View.ld (Val := Elt Ideal) (e' := .f32) M (Rect.unit (s := S2x256x1024) ![0, 0, 0] ![1, 256, 1024] inb_S2x256x1024_S1x256x1024_0_0_0))) (k1_pay10 (F := Ideal) k v q sk (View.ld (Val := Elt Ideal) (e' := .f32) M (Rect.unit (s := S2x256x1024) ![0, 0, 0] ![1, 256, 1024] inb_S2x256x1024_S1x256x1024_0_0_0)))⟩,
   ⟨Rect.unit (s := S512x512) ![320, 0] ![64, 128] inb_S512x512_S64x128_320_0, k1_pay17 (F := Ideal) (k1_pay7 (F := Ideal) sk) (k1_pay9 (F := Ideal) k q sk (View.ld (Val := Elt Ideal) (e' := .f32) M (Rect.unit (s := S2x256x1024) ![0, 0, 0] ![1, 256, 1024] inb_S2x256x1024_S1x256x1024_0_0_0))) (k1_pay10 (F := Ideal) k v q sk (View.ld (Val := Elt Ideal) (e' := .f32) M (Rect.unit (s := S2x256x1024) ![0, 0, 0] ![1, 256, 1024] inb_S2x256x1024_S1x256x1024_0_0_0)))⟩,
   ⟨Rect.unit (s := S512x512) ![256, 0] ![64, 128] inb_S512x512_S64x128_256_0, k1_pay16 (F := Ideal) (k1_pay7 (F := Ideal) sk) (k1_pay9 (F := Ideal) k q sk (View.ld (Val := Elt Ideal) (e' := .f32) M (Rect.unit (s := S2x256x1024) ![0, 0, 0] ![1, 256, 1024] inb_S2x256x1024_S1x256x1024_0_0_0))) (k1_pay10 (F := Ideal) k v q sk (View.ld (Val := Elt Ideal) (e' := .f32) M (Rect.unit (s := S2x256x1024) ![0, 0, 0] ![1, 256, 1024] inb_S2x256x1024_S1x256x1024_0_0_0)))⟩,
   ⟨Rect.unit (s := S512x512) ![192, 0] ![64, 128] inb_S512x512_S64x128_192_0, k1_pay15 (F := Ideal) (k1_pay7 (F := Ideal) sk) (k1_pay9 (F := Ideal) k q sk (View.ld (Val := Elt Ideal) (e' := .f32) M (Rect.unit (s := S2x256x1024) ![0, 0, 0] ![1, 256, 1024] inb_S2x256x1024_S1x256x1024_0_0_0))) (k1_pay10 (F := Ideal) k v q sk (View.ld (Val := Elt Ideal) (e' := .f32) M (Rect.unit (s := S2x256x1024) ![0, 0, 0] ![1, 256, 1024] inb_S2x256x1024_S1x256x1024_0_0_0)))⟩,
   ⟨Rect.unit (s := S512x512) ![128, 0] ![64, 128] inb_S512x512_S64x128_128_0, k1_pay14 (F := Ideal) (k1_pay7 (F := Ideal) sk) (k1_pay9 (F := Ideal) k q sk (View.ld (Val := Elt Ideal) (e' := .f32) M (Rect.unit (s := S2x256x1024) ![0, 0, 0] ![1, 256, 1024] inb_S2x256x1024_S1x256x1024_0_0_0))) (k1_pay10 (F := Ideal) k v q sk (View.ld (Val := Elt Ideal) (e' := .f32) M (Rect.unit (s := S2x256x1024) ![0, 0, 0] ![1, 256, 1024] inb_S2x256x1024_S1x256x1024_0_0_0)))⟩,
   ⟨Rect.unit (s := S512x512) ![64, 0] ![64, 128] inb_S512x512_S64x128_64_0, k1_pay13 (F := Ideal) (k1_pay7 (F := Ideal) sk) (k1_pay9 (F := Ideal) k q sk (View.ld (Val := Elt Ideal) (e' := .f32) M (Rect.unit (s := S2x256x1024) ![0, 0, 0] ![1, 256, 1024] inb_S2x256x1024_S1x256x1024_0_0_0))) (k1_pay10 (F := Ideal) k v q sk (View.ld (Val := Elt Ideal) (e' := .f32) M (Rect.unit (s := S2x256x1024) ![0, 0, 0] ![1, 256, 1024] inb_S2x256x1024_S1x256x1024_0_0_0)))⟩,
   ⟨Rect.unit (s := S512x512) ![0, 0] ![64, 128] inb_S512x512_S64x128_0_0, k1_pay12 (F := Ideal) (k1_pay7 (F := Ideal) sk) (k1_pay9 (F := Ideal) k q sk (View.ld (Val := Elt Ideal) (e' := .f32) M (Rect.unit (s := S2x256x1024) ![0, 0, 0] ![1, 256, 1024] inb_S2x256x1024_S1x256x1024_0_0_0))) (k1_pay10 (F := Ideal) k v q sk (View.ld (Val := Elt Ideal) (e' := .f32) M (Rect.unit (s := S2x256x1024) ![0, 0, 0] ![1, 256, 1024] inb_S2x256x1024_S1x256x1024_0_0_0)))⟩]

variable (q : FVec Ideal S512x8x1x64 .bf16) (k v : FVec Ideal S512x1x1x64 .bf16) (M : FVec Ideal S2x256x1024 .f32)
    (sk : FVec Ideal S1x1x1024 .f32)

theorem ld_zero (s : Fin 256) (l : Fin 1024) (z : Fin 512) (hz : z.val < 128) :
    (View.ld (Val := Elt Ideal) (e' := .f32) M (Rect.unit (s := S2x256x1024) ![0, 0, 0] ![1, 256, 1024] inb_S2x256x1024_S1x256x1024_0_0_0)) (ix3 0 s l : S1x256x1024.Idx)
      = mbAt M (if z.val < 128 then 0 else 1) (ix3 0 s l) := by
  rw [if_pos hz]
  pointwise [mbAt]

theorem ld_one (s : Fin 256) (l : Fin 1024) (z : Fin 512) (hz : ¬z.val < 128) :
    (View.ld (Val := Elt Ideal) (e' := .f32) M (Rect.unit (s := S2x256x1024) ![1, 0, 0] ![1, 256, 1024] inb_S2x256x1024_S1x256x1024_1_0_0)) (ix3 0 s l : S1x256x1024.Idx)
      = mbAt M (if z.val < 128 then 0 else 1) (ix3 0 s l) := by
  rw [if_neg hz]
  pointwise [mbAt]

set_option maxHeartbeats 2000000 in
/-- The scratch after the stores, at row `r` and column `i`. -/
theorem asc_at (r i : Fin 512) : View.canon (ascL q k v M sk) (ix2 r i) = ascV q k v M sk r i := by
  unfold ascL
  canon_tiles x h
  all_goals
    idx_vars x
    pointwise [k1_pay12, k1_pay13, k1_pay14, k1_pay15, k1_pay16, k1_pay17, k1_pay18, k1_pay19, k1_pay20, k1_pay22, k1_pay23, k1_pay24, k1_pay25, k1_pay26, k1_pay27, k1_pay28, k1_pay29, k1_pay30, k1_pay33, k1_pay34, k1_pay35, k1_pay36, k1_pay37, k1_pay38, k1_pay39, k1_pay40, k1_pay41, k1_pay43, k1_pay44, k1_pay45, k1_pay46, k1_pay47, k1_pay48, k1_pay49, k1_pay50, k1_pay51]
    first
      | rw [out0]
      | rw [out1]
      | rw [out2]
      | rw [out3]
    refine bOut_congr (fun s l => ?_) ?_ (fun s => ?_) ?_ ?_ ?_
    · first
        | exact ld_zero M s l i (by omega)
        | exact ld_one M s l i (by omega)
    · simp only []; omega
    · simp only [lo]; omega
    · simp only []; omega
    · simp only []; omega
    · simp only []; omega

end Cert.KernelIdeal.Val
-- ==== Proof.AttnPoint.lean ====
/- What one point of the attention call leaves in its output block: the block's attention output, channel by channel, times its rows of the
   output projection, added to the bias (first point of a run) or to what the point before left. -/
module

public import proofs.«01_k».proof.Proof.IdealAttn
public import proofs.«01_k».proof.Proof.Scratch

@[expose] public section

set_option maxRecDepth 16384

noncomputable section

open Idealize.ShloMosaic Idealize.ShloMosaic.TcCoe Idealize.SL.Sem

namespace Cert.KernelIdeal.Val

open Cert.KernelIdeal Cert.KernelIdeal.Gen Cert.KernelIdeal.Run

/-- Where the rows of the output projection begin that belong to the point's group of heads. -/
theorem off1 : ∀ t : Fin cfg1.N, k1_off1 (grid1.coords t) = ![t.val % 8 * 512, 0] :=
  (by decide +kernel : ∀ t : Fin grid1.N, _)

/-- The point's part of the output: its heads' channels times their rows of the output projection. -/
def part (q : FVec Ideal S512x8x1x64 .bf16) (k v : FVec Ideal S512x1x1x64 .bf16) (M : FVec Ideal S2x256x1024 .f32)
    (sk : FVec Ideal S1x1x1024 .f32) (W : FVec Ideal S4096x2880 .bf16) (n : Fin 8) (i : Fin 512) (d : Fin 2880) : EReal :=
  ∑ r : Fin 512, ascV q k v M sk r i * W (ix2 ⟨n.val * 512 + r.val, by omega⟩ d)

/-- The part, as the body computes it from the rows it loads. -/
theorem pay1_at (X : FVec Ideal S512x2880 .bf16) (A : Fin 512 → Fin 512 → EReal) (i : Fin 512) (d : Fin 2880) :
    k1_pay1 (F := Ideal) (k1_pay52 X) (fun z : S512x512.Idx => A (z 0) (z 1)) (ix2 i d)
      = ∑ r : Fin 512, A r i * X (ix2 r d) := by
  pointwise [k1_pay1, k1_pay52]

/-- The first point's stored block: its product and the bias. -/
theorem pay2_at (X : FVec Ideal S512x2880 .bf16) (A : FVec Ideal S512x512 .bf16) (B : FVec Ideal S1x2880 .f32) (i : Fin 512) (d : Fin 2880) :
    k1_pay2 (F := Ideal) X A B (ix2 i d) = k1_pay1 (F := Ideal) X A (ix2 i d) + B (ix2 0 d) := by
  pointwise [k1_pay2]

/-- A later point's stored block: what was there, and its product. -/
theorem pay3_at (X : FVec Ideal S512x2880 .bf16) (A : FVec Ideal S512x512 .bf16) (B : FVec Ideal S512x2880 .f32) (i : Fin 512) (d : Fin 2880) :
    k1_pay3 (F := Ideal) X A B (ix2 i d) = B (ix2 i d) + k1_pay1 (F := Ideal) X A (ix2 i d) := by
  pointwise [k1_pay3]

/-- The scratch read back whole. -/
theorem readCov_asc (w : View sig .tc .vmem S512x512 .bf16) (q : FVec Ideal S512x8x1x64 .bf16) (k v : FVec Ideal S512x1x1x64 .bf16)
    (M : FVec Ideal S2x256x1024 .f32) (sk : FVec Ideal S1x1x1024 .f32) :
    w.readCov (ascL q k v M sk) (Rect.unit (s := S512x512) ![0, 0] ![512, 512] inb_S512x512_S512x512_0_0).toLoadRect
      = fun z : S512x512.Idx => ascV q k v M sk (z 0) (z 1) := by
  rw [View.readCov_eq_canon']
  funext z
  idx_vars z
  have hz : (Rect.unit (s := S512x512) ![0, 0] ![512, 512] inb_S512x512_S512x512_0_0).toLoadRect.idx (ix2 z0 z1) = ix2 z0 z1 := by
    funext a; fin_cases a <;> (apply Fin.ext; simp [Rect.toLoadRect, LoadRect.idx])
  rw [hz]
  exact asc_at q k v M sk z0 z1

/-- The body's product, read through the load of its rows. -/
theorem pay1_rows (t : Fin cfg1.N) (W : FVec Ideal S4096x2880 .bf16) (A : Fin 512 → Fin 512 → EReal) (i : Fin 512) (d : Fin 2880) :
    k1_pay1 (F := Ideal) (k1_pay52 (View.ld (Val := Elt Ideal) (e' := .bf16) W (Rect.unit (s := S4096x2880) (k1_off1 (grid1.coords t)) ![512, 2880] (k1_off1_inb (grid1.coords t)))))
        (fun z : S512x512.Idx => A (z 0) (z 1)) (ix2 i d)
      = ∑ r : Fin 512, A r i * W (ix2 ⟨t.val % 8 * 512 + r.val, by omega⟩ d) := by
  rw [pay1_at]
  refine Finset.sum_congr rfl fun r _ => ?_
  refine congrArg (A r i * ·) ?_
  refine View.ld_unit_apply_of (Val := Elt Ideal) (e := .bf16) W _ _ _ _ _ fun a => ?_
  have h0 := congrFun (off1 t) 0
  have h1 := congrFun (off1 t) 1
  fin_cases a
  · show t.val % 8 * 512 + r.val = k1_off1 (grid1.coords t) 0 + r.val
    rw [h0]; rfl
  · show d.val = k1_off1 (grid1.coords t) 1 + d.val
    rw [h1]; exact (Nat.zero_add _).symm

variable (V : (c : Dev nD) → (b : Ref sig .tc) → Buf (Elt Ideal) ((c : Thread nD τ).loc b))

set_option maxHeartbeats 1000000 in
/-- The first point of a run: its part, and the bias. -/
theorem outs_A (c : Dev nD) (t : Fin cfg1.N) (h0 : t.val % 8 = 0) (h1 : ¬1 ≤ t.val % 8) (i : Fin 512) (d : Fin 2880) :
    outsAt1 V c t.val t.isLt (ix2 i d) = part (iblk1 V c 0 t) (iblk1 V c 1 t) (iblk1 V c 2 t) (iblk1 V c 3 t) (iblk1 V c 4 t) (iblk1 V c 5 t) ⟨t.val % 8, by omega⟩ i d
      + (show FVec Ideal S1x2880 .f32 from iblk1 V c 6 t) (ix2 0 d) := by
  rw [outsAt1_A V c t h0 h1]
  frame_out
  have h := readCov_asc (View.whole cc1_scratch0) (iblk1 V c 0 t) (iblk1 V c 1 t) (iblk1 V c 2 t) (iblk1 V c 3 t) (iblk1 V c 4 t)
  unfold ascL at h
  rw [h, pay2_at]
  exact congrArg (· + (show FVec Ideal S1x2880 .f32 from iblk1 V c 6 t) (ix2 0 d)) (pay1_rows t (iblk1 V c 5 t) _ i d)

set_option maxHeartbeats 1000000 in
/-- A later point of a run: what the point before left, and its part. -/
theorem outs_B (c : Dev nD) (t : Fin cfg1.N) (h0 : ¬t.val % 8 = 0) (h1 : 1 ≤ t.val % 8) (i : Fin 512) (d : Fin 2880) :
    outsAt1 V c t.val t.isLt (ix2 i d) = outsAt1 V c (t.val - 1) (Nat.lt_of_le_of_lt (Nat.sub_le _ _) t.isLt) (ix2 i d)
      + part (iblk1 V c 0 t) (iblk1 V c 1 t) (iblk1 V c 2 t) (iblk1 V c 3 t) (iblk1 V c 4 t) (iblk1 V c 5 t) ⟨t.val % 8, by omega⟩ i d := by
  rw [outsAt1_B V c t h0 h1]
  frame_out
  have h := readCov_asc (View.whole cc1_scratch0) (iblk1 V c 0 t) (iblk1 V c 1 t) (iblk1 V c 2 t) (iblk1 V c 3 t) (iblk1 V c 4 t)
  unfold ascL at h
  rw [h, pay3_at]
  exact congrArg (outsAt1 V c (t.val - 1) (Nat.lt_of_le_of_lt (Nat.sub_le _ _) t.isLt) (ix2 i d) + ·) (pay1_rows t (iblk1 V c 5 t) _ i d)

end Cert.KernelIdeal.Val
-- ==== Proof.AttnArr.lean ====
/- The operands of the projection call, read at an index in the arguments. -/
module

public import proofs.«01_k».proof.Proof.IdealRun
public import proofs.«01_k».proof.Proof.QkvOut
public import proofs.«01_k».proof.Proof.AttnPoint
public import Idealize.ShloMosaic.Lib.Pipeline.ValueKit

@[expose] public section

set_option maxRecDepth 16384

noncomputable section

open Idealize.ShloMosaic Idealize.ShloMosaic.TcCoe Idealize.SL.Sem

namespace Cert.KernelIdeal.Val

open Cert.KernelIdeal Cert.KernelIdeal.Gen Cert.KernelIdeal.Run

section
variable (V : (c : Dev nD) → (b : Ref sig .tc) → Buf (Elt Ideal) ((c : Thread nD τ).loc b))

/-! Where the windows' blocks lie. -/
theorem idx1_0 : ∀ t : Fin cfg1.N, win1_0.index t = ![t.val / 8, t.val % 8, 0, 0] := (by decide +kernel : ∀ t : Fin grid1.N, _)
theorem idx1_1 : ∀ t : Fin cfg1.N, win1_1.index t = ![t.val / 8, 64 + t.val % 8, 0, 0] := (by decide +kernel : ∀ t : Fin grid1.N, _)
theorem idx1_2 : ∀ t : Fin cfg1.N, win1_2.index t = ![t.val / 8, 72 + t.val % 8, 0, 0] := (by decide +kernel : ∀ t : Fin grid1.N, _)
theorem idx1_3 : ∀ t : Fin cfg1.N, win1_3.index t = ![0, 0, 0] := (by decide +kernel : ∀ t : Fin grid1.N, _)
theorem idx1_4 : ∀ t : Fin cfg1.N, win1_4.index t = ![t.val % 8, 0, 0] := (by decide +kernel : ∀ t : Fin grid1.N, _)
theorem idx1_5 : ∀ t : Fin cfg1.N, win1_5.index t = ![0, 0] := (by decide +kernel : ∀ t : Fin grid1.N, _)
theorem idx1_6 : ∀ t : Fin cfg1.N, win1_6.index t = ![0, 0] := (by decide +kernel : ∀ t : Fin grid1.N, _)
theorem idx1_7 : ∀ t : Fin cfg1.N, win1_7.index t = ![t.val / 8, 0] := (by decide +kernel : ∀ t : Fin grid1.N, _)

theorem lt1 (t : Fin cfg1.N) : t.val < 32 := t.isLt

/-- The sequence of a point. -/
def bat (t : Fin cfg1.N) : Fin 4 := ⟨t.val / 8, by have := lt1 t; omega⟩
/-- The group of heads of a point. -/
def grp (t : Fin cfg1.N) : Fin 8 := ⟨t.val % 8, by omega⟩

theorem jb0 (c : Dev nD) (t : Fin cfg1.N) (i : Fin 512) (g : Fin 8) (d : Fin 64) : (show FVec Ideal S512x8x1x64 .bf16 from iblk1 V c 0 t) (ix4 i g 0 d)
    = (show FVec Ideal S2048x80x1x64 .bf16 from V c main_v86) (ix4 (Cert.Gqa.Args.tok (bat t) i) ⟨t.val % 8 * 8 + g.val, by omega⟩ 0 d) := by
  unfold iblk1 Cert.Gqa.Args.tok bat
  blk_point [idx1_0 t]

theorem jb1 (c : Dev nD) (t : Fin cfg1.N) (i : Fin 512) (d : Fin 64) : (show FVec Ideal S512x1x1x64 .bf16 from iblk1 V c 1 t) (ix4 i 0 0 d)
    = (show FVec Ideal S2048x80x1x64 .bf16 from V c main_v86) (ix4 (Cert.Gqa.Args.tok (bat t) i) ⟨64 + t.val % 8, by omega⟩ 0 d) := by
  unfold iblk1 Cert.Gqa.Args.tok bat
  blk_point [idx1_1 t]

theorem jb2 (c : Dev nD) (t : Fin cfg1.N) (i : Fin 512) (d : Fin 64) : (show FVec Ideal S512x1x1x64 .bf16 from iblk1 V c 2 t) (ix4 i 0 0 d)
    = (show FVec Ideal S2048x80x1x64 .bf16 from V c main_v86) (ix4 (Cert.Gqa.Args.tok (bat t) i) ⟨72 + t.val % 8, by omega⟩ 0 d) := by
  unfold iblk1 Cert.Gqa.Args.tok bat
  blk_point [idx1_2 t]

theorem jb3 (c : Dev nD) (t : Fin cfg1.N) (e : Fin 2) (s : Fin 256) (l : Fin 1024) : (show FVec Ideal S2x256x1024 .f32 from iblk1 V c 3 t) (ix3 e s l)
    = (show FVec Ideal S2x256x1024 .f32 from V c main_v120) (ix3 e s l) := by
  unfold iblk1
  blk_point [idx1_3 t]

theorem jb4 (c : Dev nD) (t : Fin cfg1.N) (l : Fin 1024) : (show FVec Ideal S1x1x1024 .f32 from iblk1 V c 4 t) (ix3 0 0 l)
    = (show FVec Ideal S8x1x1024 .f32 from V c main_v124) (ix3 (grp t) 0 l) := by
  unfold iblk1 grp
  blk_point [idx1_4 t]

theorem jb5 (c : Dev nD) (t : Fin cfg1.N) (i : Fin 4096) (d : Fin 2880) : (show FVec Ideal S4096x2880 .bf16 from iblk1 V c 5 t) (ix2 i d)
    = (show FVec Ideal S4096x2880 .bf16 from V c main_v126) (ix2 i d) := by
  unfold iblk1
  blk_point [idx1_5 t]

theorem jb6 (c : Dev nD) (t : Fin cfg1.N) (d : Fin 2880) : (show FVec Ideal S1x2880 .f32 from iblk1 V c 6 t) (ix2 0 d)
    = (show FVec Ideal S1x2880 .f32 from V c main_v127) (ix2 0 d) := by
  unfold iblk1
  blk_point [idx1_6 t]

end

variable (m : (ℓ : Loc nD τ sig) → Buf (Elt Ideal) ℓ) (ρ : Dev nD → PrngReg) (c : Dev nD)

/-! ## The blocks, in the arguments -/

theorem b_q (t : Fin cfg1.N) (i : Fin 512) (g : Fin 8) (d : Fin 64) : (show FVec Ideal S512x8x1x64 .bf16 from iblk1 (V17 m ρ) c 0 t) (ix4 i g 0 d)
    = (args m c).qr (Cert.Gqa.Args.tok (bat t) i) (Cert.Gqa.Args.hd (grp t) g) d * Cert.Gqa.c8 := by
  rw [jb0, e_q4]
  exact q_at m ρ c _ (Cert.Gqa.Args.hd (grp t) g) d _ rfl

theorem b_k (t : Fin cfg1.N) (i : Fin 512) (d : Fin 64) : (show FVec Ideal S512x1x1x64 .bf16 from iblk1 (V17 m ρ) c 1 t) (ix4 i 0 0 d)
    = (args m c).kr (Cert.Gqa.Args.tok (bat t) i) (grp t) d := by
  rw [jb1, e_q4]
  exact k_at m ρ c _ (grp t) d _ (by unfold grp; simp only []; omega)

theorem b_v (t : Fin cfg1.N) (i : Fin 512) (d : Fin 64) : (show FVec Ideal S512x1x1x64 .bf16 from iblk1 (V17 m ρ) c 2 t) (ix4 i 0 0 d)
    = (args m c).v (Cert.Gqa.Args.tok (bat t) i) (grp t) d := by
  rw [jb2, e_q4]
  exact v_at m ρ c _ (grp t) d _ (by unfold grp; simp only []; omega)

theorem b_sk (t : Fin cfg1.N) (g : Fin 8) (l : Fin 1024) (hl : l.val / 128 = g.val) : (show FVec Ideal S1x1x1024 .f32 from iblk1 (V17 m ρ) c 4 t) (ix3 0 0 l)
    = (args m c).sk (Cert.Gqa.Args.hd (grp t) g) := by
  rw [jb4, e_sk]
  show _ = (show FVec Ideal S64 .f32 from m ((c : Thread nD τ).loc main_arg9)) (ix1 (Cert.Gqa.Args.hd (grp t) g))
  rw [show (⟨(grp t).val * 8 + l.val / 128, by omega⟩ : Fin 64) = Cert.Gqa.Args.hd (grp t) g from Fin.ext (by unfold Cert.Gqa.Args.hd; simp only []; omega)]

theorem b_wo (t : Fin cfg1.N) (n : Fin 8) (r : Fin 512) (d : Fin 2880) : (show FVec Ideal S4096x2880 .bf16 from iblk1 (V17 m ρ) c 5 t) (ix2 ⟨n.val * 512 + r.val, by omega⟩ d)
    = (args m c).wo ⟨n.val * 8 + r.val / 64, by omega⟩ ⟨r.val % 64, by omega⟩ d := by
  rw [jb5, e_wo]
  show _ = (show FVec Ideal S64x64x2880 .f32 from m ((c : Thread nD τ).loc main_arg7)) (ix3 ⟨n.val * 8 + r.val / 64, by omega⟩ ⟨r.val % 64, by omega⟩ d)
  rw [show (⟨(n.val * 512 + r.val) / 64, by omega⟩ : Fin 64) = ⟨n.val * 8 + r.val / 64, by omega⟩ from Fin.ext (by simp only []; omega),
    show (⟨(n.val * 512 + r.val) % 64, by omega⟩ : Fin 64) = ⟨r.val % 64, by omega⟩ from Fin.ext (by simp only []; omega)]

theorem b_bo (t : Fin cfg1.N) (d : Fin 2880) : (show FVec Ideal S1x2880 .f32 from iblk1 (V17 m ρ) c 6 t) (ix2 0 d) = (args m c).bo d := by
  rw [jb6, e_bo]
  rfl

/-- The mask's part for a query and a key of its span. -/
theorem b_mb (t : Fin cfg1.N) (i : Fin 512) (s : Fin 256) (l : Fin 1024) (hl : l.val % 128 = i.val % 128) :
    mbAt (iblk1 (V17 m ρ) c 3 t) (if i.val < 128 then 0 else 1) (ix3 0 s l)
      = if lo i + s.val ≤ i.val ∧ i.val < lo i + s.val + 128 then (0 : EReal) else ⊥ := by
  show (show FVec Ideal S2x256x1024 .f32 from iblk1 (V17 m ρ) c 3 t) (ix3 (if i.val < 128 then 0 else 1) s l) = _
  rw [jb3, e_mb, bot_bits]
  unfold lo
  refine if_congr ?_ rfl rfl
  by_cases h : i.val < 128
  · rw [if_pos h]
    show s.val ≤ 0 * 128 + l.val % 128 ∧ 0 * 128 + l.val % 128 < s.val + 128 ↔ _
    omega
  · rw [if_neg h]
    show s.val ≤ 1 * 128 + l.val % 128 ∧ 1 * 128 + l.val % 128 < s.val + 128 ↔ _
    omega

/-! ## One point -/

theorem st_at (t : Fin cfg1.N) (i : Fin 512) (g : Fin 8) (l : Fin 1024) (hl : l.val % 128 = i.val % 128) (s : Fin 256) :
    bSt (iblk1 (V17 m ρ) c 0 t) (iblk1 (V17 m ρ) c 1 t) (mbAt (iblk1 (V17 m ρ) c 3 t) (if i.val < 128 then 0 else 1)) i
        (fun s => ⟨lo i + s.val, by unfold lo; omega⟩) g l s
      = (args m c).score (bat t) (grp t) g i ⟨lo i + s.val, by unfold lo; omega⟩ := by
  unfold bSt
  rw [b_mb m ρ c t i s l hl]
  simp only [show ∀ i g d, (iblk1 (V17 m ρ) c 0 t : S512x8x1x64.Idx → EReal) (ix4 i g 0 d) = _ from b_q m ρ c t,
    show ∀ i d, (iblk1 (V17 m ρ) c 1 t : S512x1x1x64.Idx → EReal) (ix4 i 0 0 d) = _ from b_k m ρ c t, ← mul_assoc, ← Cert.Gqa.sum_c8]
  unfold Cert.Gqa.Args.score
  by_cases h : lo i + s.val ≤ i.val ∧ i.val < lo i + s.val + 128
  · rw [if_pos h, if_pos h, add_zero]
  · rw [if_neg h, if_neg h, EReal.add_bot]

theorem asc_val (t : Fin cfg1.N) (r i : Fin 512) :
    ascV (iblk1 (V17 m ρ) c 0 t) (iblk1 (V17 m ρ) c 1 t) (iblk1 (V17 m ρ) c 2 t) (iblk1 (V17 m ρ) c 3 t) (iblk1 (V17 m ρ) c 4 t) r i
      = (args m c).att (bat t) (grp t) ⟨r.val / 64, by omega⟩ i ⟨r.val % 64, by omega⟩ := by
  unfold ascV bOut bMx
  have hl : (⟨r.val / 64 * 128 + i.val % 128, by omega⟩ : Fin 1024).val % 128 = i.val % 128 := by simp only []; omega
  have hg : (⟨r.val / 64 * 128 + i.val % 128, by omega⟩ : Fin 1024).val / 128 = (⟨r.val / 64, by omega⟩ : Fin 8).val := by simp only []; omega
  simp only [show (iblk1 (V17 m ρ) c 4 t : S1x1x1024.Idx → EReal) (ix3 0 0 ⟨r.val / 64 * 128 + i.val % 128, by omega⟩) = _ from b_sk m ρ c t _ _ hg,
    show ∀ i d, (iblk1 (V17 m ρ) c 2 t : S512x1x1x64.Idx → EReal) (ix4 i 0 0 d) = _ from b_v m ρ c t, bot_bits]
  unfold Cert.Gqa.Args.att
  exact Cert.Gqa.attn_span ((args m c).score (bat t) (grp t) ⟨r.val / 64, by omega⟩ i) (fun j => (args m c).v (Cert.Gqa.Args.tok (bat t) j) (grp t) ⟨r.val % 64, by omega⟩) _ _ (lo i)
    (by unfold lo; omega) (fun s => st_at m ρ c t i _ _ hl s)
    (fun j hj => by
      unfold Cert.Gqa.Args.score
      exact if_neg (by unfold lo at hj; omega))

/-- A point's part of the result. -/
def pt (b : Fin 4) (n : Fin 8) (i : Fin 512) (d : Fin 2880) : EReal :=
  ∑ r : Fin 512, (args m c).att b n ⟨r.val / 64, by omega⟩ i ⟨r.val % 64, by omega⟩ * (args m c).wo ⟨n.val * 8 + r.val / 64, by omega⟩ ⟨r.val % 64, by omega⟩ d

theorem part_val (t : Fin cfg1.N) (i : Fin 512) (d : Fin 2880) :
    part (iblk1 (V17 m ρ) c 0 t) (iblk1 (V17 m ρ) c 1 t) (iblk1 (V17 m ρ) c 2 t) (iblk1 (V17 m ρ) c 3 t) (iblk1 (V17 m ρ) c 4 t) (iblk1 (V17 m ρ) c 5 t) ⟨t.val % 8, by omega⟩ i d
      = pt m c (bat t) (grp t) i d := by
  unfold part pt
  refine Finset.sum_congr rfl fun r _ => ?_
  rw [asc_val, show (iblk1 (V17 m ρ) c 5 t : S4096x2880.Idx → EReal) (ix2 ⟨t.val % 8 * 512 + r.val, by omega⟩ d) = _ from b_wo m ρ c t (grp t) r d]

theorem sum_pt (b : Fin 4) (i : Fin 512) (d : Fin 2880) : (args m c).bo d + ∑ n : Fin 8, pt m c b n i d = (args m c).out b i d := by
  unfold pt Cert.Gqa.Args.out
  rw [add_comm, ← Cert.Gqa.sum_rows (fun a h => (args m c).att b ⟨a.val / 8, by omega⟩ ⟨a.val % 8, by omega⟩ i h * (args m c).wo a h d)]
  refine congrArg (· + (args m c).bo d) (Finset.sum_congr rfl fun n _ => Finset.sum_congr rfl fun r _ => ?_)
  simp only []
  rw [show (⟨(n.val * 8 + r.val / 64) / 8, by omega⟩ : Fin 8) = n from Fin.ext (by simp only []; omega),
    show (⟨(n.val * 8 + r.val / 64) % 8, by omega⟩ : Fin 8) = ⟨r.val / 64, by omega⟩ from Fin.ext (by simp only []; omega)]

/-! ## The array -/

/-- The result array. -/
def outF (z : S2048x2880.Idx) : EReal :=
  (args m c).out ⟨(z 0).val / 512, by have : (z 0).val < 2048 := (z 0).isLt; omega⟩ ⟨(z 0).val % 512, by omega⟩ (z 1)

theorem out_run (t : Fin cfg1.N) (hr : t.val % 8 = 8 - 1) (i : Fin 512) (d : Fin 2880) :
    outsAt1 (V17 m ρ) c t.val t.isLt (ix2 i d) = (args m c).out (bat t) i d := by
  have h := Pipeline.eq_sum_fin_of_reset_step_apply_of_flush (M := EReal) (ι := Fin 512 × Fin 2880)
    (fun n h z => outsAt1 (V17 m ρ) c n h (ix2 z.1 z.2)) 8 (fun z => (args m c).bo z.2) (fun t z => pt m c (bat t) (grp t) z.1 z.2)
    (fun t h z => by
      refine (outs_A (V17 m ρ) c t h (by omega) z.1 z.2).trans ?_
      rw [part_val, b_bo, add_comm])
    (fun t h z => by
      refine (outs_B (V17 m ρ) c t h (by omega) z.1 z.2).trans ?_
      rw [part_val]) t hr (i, d)
  refine h.trans ((congrArg ((args m c).bo d + ·) (Finset.sum_congr rfl fun n _ => ?_)).trans (sum_pt m c (bat t) i d))
  show pt m c (bat ⟨8 * (t.val / 8) + n.val, _⟩) (grp ⟨8 * (t.val / 8) + n.val, _⟩) i d = _
  rw [show bat ⟨8 * (t.val / 8) + n.val, Pipeline.run_point_lt_of_flush t hr n⟩ = bat t from Fin.ext (by unfold bat; simp only []; omega),
    show grp ⟨8 * (t.val / 8) + n.val, Pipeline.run_point_lt_of_flush t hr n⟩ = n from Fin.ext (by unfold grp; simp only []; omega)]

theorem arr1 : (dat1 (V17 m ρ) c).arrAt 7 cfg1.N = outF m c := by
  refine (dat1 (V17 m ρ) c).arrAt_eq_of_covers 7 _ (by decide +kernel) fun t hf y => ?_
  blk_simp
  rw [after1_7]
  idx_vars y
  have ht := lt1 t
  rw [show (((View.whole main_v128).slice (win1_7.rect t)).emb (ix2 y0 y1)) = (ix2 ⟨t.val / 8 * 512 + y0.val, by omega⟩ y1 : S2048x2880.Idx) from by
    blk_ext [idx1_7 t]]
  refine (out_run m ρ c t ((flush1_7 t).mp hf) y0 y1).trans ?_
  show _ = (args m c).out ⟨(t.val / 8 * 512 + y0.val) / 512, _⟩ ⟨(t.val / 8 * 512 + y0.val) % 512, _⟩ y1
  rw [show (⟨(t.val / 8 * 512 + y0.val) / 512, by omega⟩ : Fin 4) = bat t from Fin.ext (by unfold bat; simp only []; omega),
    show (⟨(t.val / 8 * 512 + y0.val) % 512, by omega⟩ : Fin 512) = y0 from Fin.ext (by simp only []; omega)]

/-- The kernel's result. -/
theorem result : W18 m ρ c (Proc.devRef .tc main_v128) = outF m c := (W18_result m ρ c).trans (arr1 m ρ c)

end Cert.KernelIdeal.Val
-- ==== Proof.RefPoint.lean ====
/- The reference's arrays, read at an index in the arguments. -/
module

public import proofs.«01_k».proof.Proof.Gen.ReferenceIdeal.Run
public import proofs.«01_k».proof.Proof.Spec
public import Idealize.ShloMosaic.Lib.Pipeline.ValueKit

@[expose] public section

set_option maxRecDepth 16384

noncomputable section

open Idealize.ShloMosaic Idealize.ShloMosaic.TcCoe Idealize.SL.Sem

namespace Cert.ReferenceIdeal.Val

open Cert.ReferenceIdeal Cert.ReferenceIdeal.Gen Cert.ReferenceIdeal.Value

variable (V : Valuation τ sig (Elt Ideal))

/-- The reference's arguments. -/
def args : Cert.Gqa.Args where
  x := fun i d => (show FVec Ideal S2048x2880 .f32 from V (Proc.devRef .tc main_arg0)) (ix2 i d)
  wq := fun d n h => (show FVec Ideal S2880x64x64 .f32 from V (Proc.devRef .tc main_arg1)) (ix3 d n h)
  bq := fun n h => (show FVec Ideal S64x64 .f32 from V (Proc.devRef .tc main_arg2)) (ix2 n h)
  wk := fun d n h => (show FVec Ideal S2880x8x64 .f32 from V (Proc.devRef .tc main_arg3)) (ix3 d n h)
  bk := fun n h => (show FVec Ideal S8x64 .f32 from V (Proc.devRef .tc main_arg4)) (ix2 n h)
  wv := fun d n h => (show FVec Ideal S2880x8x64 .f32 from V (Proc.devRef .tc main_arg5)) (ix3 d n h)
  bv := fun n h => (show FVec Ideal S8x64 .f32 from V (Proc.devRef .tc main_arg6)) (ix2 n h)
  wo := fun n h d => (show FVec Ideal S64x64x2880 .f32 from V (Proc.devRef .tc main_arg7)) (ix3 n h d)
  bo := fun d => (show FVec Ideal S2880 .f32 from V (Proc.devRef .tc main_arg8)) (ix1 d)
  sk := fun n => (show FVec Ideal S64 .f32 from V (Proc.devRef .tc main_arg9)) (ix1 n)
  ps := fun i => (show IVec S2048 32 from V (Proc.devRef .tc main_arg10)) (ix1 i)

theorem r_q (i : Fin 2048) (n h : Fin 64) : res_main_v3 (F := Ideal) V (ix3 i n h) = (args V).q i n h := by
  pointwise [res_main_v3]
  rfl

theorem r_k (i : Fin 2048) (n : Fin 8) (h : Fin 64) : res_main_v7 (F := Ideal) V (ix3 i n h) = (args V).k i n h := by
  pointwise [res_main_v7]
  rfl

/-! ## The rotation's tables -/

theorem c_one : (id (constant (F := Ideal) S_ .f32 1065353216#32) ix0 : EReal) = 1 := by
  rw [id_eq]
  pointwise []

theorem c_zero : (id (constant (F := Ideal) S_ .f32 0#32) ix0 : EReal) = 0 := by
  rw [id_eq]
  pointwise []

theorem r_cos (i : Fin 2048) (h : Fin 32) : res_main_v48 (F := Ideal) V (ix2 i h) = Cert.Gqa.cosT ((args V).ps i) h := by
  pointwise [res_main_v48, res_main_v45, res_main_v34, res_main_v20]
  rw [c_one, c_zero]
  rfl

theorem r_sin (i : Fin 2048) (h : Fin 32) : res_main_v51 (F := Ideal) V (ix2 i h) = Cert.Gqa.sinT ((args V).ps i) h := by
  pointwise [res_main_v51, res_main_v45, res_main_v34, res_main_v20]
  rw [c_one, c_zero]
  rfl

theorem r_v52 (i : Fin 2048) (n : Fin 64) (h : Fin 32) : res_main_v52 (F := Ideal) V (ix3 i n h) = (args V).q i n ⟨h.val, by omega⟩ := by
  pointwise [res_main_v52]
  exact r_q V i n _

theorem r_v53 (i : Fin 2048) (n : Fin 64) (h : Fin 32) : res_main_v53 (F := Ideal) V (ix3 i n h) = (args V).q i n ⟨32 + h.val, by omega⟩ := by
  pointwise [res_main_v53]
  exact r_q V i n _

theorem r_v54 (i : Fin 2048) (h : Fin 32) : res_main_v54 (F := Ideal) V (ix3 i 0 h) = Cert.Gqa.cosT ((args V).ps i) h := by
  pointwise [res_main_v54]
  exact r_cos V i h

theorem r_v55 (i : Fin 2048) (h : Fin 32) : res_main_v55 (F := Ideal) V (ix3 i 0 h) = Cert.Gqa.sinT ((args V).ps i) h := by
  pointwise [res_main_v55]
  exact r_sin V i h

theorem r_v67 (i : Fin 2048) (n : Fin 8) (h : Fin 32) : res_main_v67 (F := Ideal) V (ix3 i n h) = (args V).k i n ⟨h.val, by omega⟩ := by
  pointwise [res_main_v67]
  exact r_k V i n _

theorem r_v68 (i : Fin 2048) (n : Fin 8) (h : Fin 32) : res_main_v68 (F := Ideal) V (ix3 i n h) = (args V).k i n ⟨32 + h.val, by omega⟩ := by
  pointwise [res_main_v68]
  exact r_k V i n _

theorem r_v69 (i : Fin 2048) (h : Fin 32) : res_main_v69 (F := Ideal) V (ix3 i 0 h) = Cert.Gqa.cosT ((args V).ps i) h := by
  pointwise [res_main_v69]
  exact r_cos V i h

theorem r_v70 (i : Fin 2048) (h : Fin 32) : res_main_v70 (F := Ideal) V (ix3 i 0 h) = Cert.Gqa.sinT ((args V).ps i) h := by
  pointwise [res_main_v70]
  exact r_sin V i h

/-! ## The scores -/

/-- A sum over a head's channels, in halves. -/
theorem sum_half (f : Fin 64 → EReal) : (∑ d, f d) = (∑ d : Fin 32, f ⟨d.val, by omega⟩) + ∑ d : Fin 32, f ⟨32 + d.val, by omega⟩ := by
  rw [show (∑ d, f d) = ∑ d : Fin (32 + 32), f d from rfl, Fin.sum_univ_add]
  rfl

theorem rope_lo (f : Fin 64 → EReal) (C S : Fin 32 → EReal) (h : Fin 32) :
    Cert.Gqa.rope f C S ⟨h.val, by omega⟩ = f ⟨h.val, by omega⟩ * C h - f ⟨32 + h.val, by omega⟩ * S h := by
  unfold Cert.Gqa.rope
  refine (dif_pos h.isLt).trans ?_
  have e : (⟨h.val + 32, by omega⟩ : Fin 64) = ⟨32 + h.val, by omega⟩ := Fin.ext (Nat.add_comm _ _)
  exact congrArg (fun a => f ⟨h.val, by omega⟩ * C h - f a * S h) e

theorem rope_hi (f : Fin 64 → EReal) (C S : Fin 32 → EReal) (h : Fin 32) :
    Cert.Gqa.rope f C S ⟨32 + h.val, by omega⟩ = f ⟨32 + h.val, by omega⟩ * C h + f ⟨h.val, by omega⟩ * S h := by
  unfold Cert.Gqa.rope
  rw [dif_neg (by simp only []; omega)]
  simp only [Nat.add_sub_cancel_left]

end Cert.ReferenceIdeal.Val
-- ==== Proof.RefScore.lean ====
/- The reference's scores, its softmax and its result, read at an index in the arguments. -/
module

public import proofs.«01_k».proof.Proof.Gen.ReferenceIdeal.Run
public import proofs.«01_k».proof.Proof.RefPoint
public import Idealize.ShloMosaic.Lib.Tactic.CleanTypes
public import proofs.«01_k».proof.Proof.Bits
public import Idealize.ShloMosaic.Lib.Pipeline.ValueKit

@[expose] public section

set_option maxRecDepth 16384

noncomputable section

open Idealize.ShloMosaic Idealize.ShloMosaic.TcCoe Idealize.SL.Sem

namespace Cert.ReferenceIdeal.Val

open Cert.ReferenceIdeal Cert.ReferenceIdeal.Gen Cert.ReferenceIdeal.Value

variable (V : Valuation τ sig (Elt Ideal))

theorem c_bot : (id (constant (F := Ideal) S_ .f32 4286578688#32) ix0 : EReal) = ⊥ := Cert.KernelIdeal.Val.bot_bits

theorem select_one (a b : EReal) : Scalar.select 1#1 a b = a := rfl
theorem select_zero (a b : EReal) : Scalar.select 0#1 a b = b := rfl

theorem r_qlo (i : Fin 2048) (n : Fin 64) (d : Fin 32) :
    (show EReal from res_main_v52 (F := Ideal) V (ix3 i n d)) * (show EReal from res_main_v54 (F := Ideal) V (ix3 i 0 d)) - (show EReal from res_main_v53 (F := Ideal) V (ix3 i n d)) * (show EReal from res_main_v55 (F := Ideal) V (ix3 i 0 d)) = (args V).qr i n ⟨d.val, by omega⟩ :=
  (congrArg₂ (fun y z : EReal => y - z) (congrArg₂ (fun y z : EReal => y * z) (r_v52 V i n d) (r_v54 V i d)) (congrArg₂ (fun y z : EReal => y * z) (r_v53 V i n d) (r_v55 V i d))).trans
    (rope_lo _ _ _ d).symm

theorem r_qhi (i : Fin 2048) (n : Fin 64) (d : Fin 32) :
    (show EReal from res_main_v53 (F := Ideal) V (ix3 i n d)) * (show EReal from res_main_v54 (F := Ideal) V (ix3 i 0 d)) + (show EReal from res_main_v52 (F := Ideal) V (ix3 i n d)) * (show EReal from res_main_v55 (F := Ideal) V (ix3 i 0 d)) = (args V).qr i n ⟨32 + d.val, by omega⟩ :=
  (congrArg₂ (fun y z : EReal => y + z) (congrArg₂ (fun y z : EReal => y * z) (r_v53 V i n d) (r_v54 V i d)) (congrArg₂ (fun y z : EReal => y * z) (r_v52 V i n d) (r_v55 V i d))).trans
    (rope_hi _ _ _ d).symm

theorem r_klo (i : Fin 2048) (n : Fin 8) (d : Fin 32) :
    (show EReal from res_main_v67 (F := Ideal) V (ix3 i n d)) * (show EReal from res_main_v69 (F := Ideal) V (ix3 i 0 d)) - (show EReal from res_main_v68 (F := Ideal) V (ix3 i n d)) * (show EReal from res_main_v70 (F := Ideal) V (ix3 i 0 d)) = (args V).kr i n ⟨d.val, by omega⟩ :=
  (congrArg₂ (fun y z : EReal => y - z) (congrArg₂ (fun y z : EReal => y * z) (r_v67 V i n d) (r_v69 V i d)) (congrArg₂ (fun y z : EReal => y * z) (r_v68 V i n d) (r_v70 V i d))).trans
    (rope_lo _ _ _ d).symm

theorem r_khi (i : Fin 2048) (n : Fin 8) (d : Fin 32) :
    (show EReal from res_main_v68 (F := Ideal) V (ix3 i n d)) * (show EReal from res_main_v69 (F := Ideal) V (ix3 i 0 d)) + (show EReal from res_main_v67 (F := Ideal) V (ix3 i n d)) * (show EReal from res_main_v70 (F := Ideal) V (ix3 i 0 d)) = (args V).kr i n ⟨32 + d.val, by omega⟩ :=
  (congrArg₂ (fun y z : EReal => y + z) (congrArg₂ (fun y z : EReal => y * z) (r_v68 V i n d) (r_v69 V i d)) (congrArg₂ (fun y z : EReal => y * z) (r_v67 V i n d) (r_v70 V i d))).trans
    (rope_hi _ _ _ d).symm

theorem r_v100 (b : Fin 4) (k g : Fin 8) (i j : Fin 512) :
    res_main_v100 (F := Ideal) V (ix5 b k g i j) = (args V).score b k g i j := by
  have hs : (args V).score b k g i j = (if j.val ≤ i.val ∧ i.val < j.val + 128 then
      ((∑ d : Fin 32, (args V).kr (Cert.Gqa.Args.tok b j) k ⟨d.val, by omega⟩ * (args V).qr (Cert.Gqa.Args.tok b i) (Cert.Gqa.Args.hd k g) ⟨d.val, by omega⟩)
        + ∑ d : Fin 32, (args V).kr (Cert.Gqa.Args.tok b j) k ⟨32 + d.val, by omega⟩ * (args V).qr (Cert.Gqa.Args.tok b i) (Cert.Gqa.Args.hd k g) ⟨32 + d.val, by omega⟩) * Cert.Gqa.c8 else ⊥) := by
    unfold Cert.Gqa.Args.score
    rw [sum_half]
  pointwise [res_main_v100, res_main_v94, res_main_v89]
  rw [Cert.KernelIdeal.Val.win_bit _ _ (by omega) (by omega)]
  rw [c_bot]
  clean_types
  refine Eq.trans ?_ hs.symm
  clear hs
  by_cases h : j.val ≤ i.val ∧ i.val < j.val + 128
  · refine Eq.trans (congrArg (fun z => Scalar.select z _ _) (if_pos h)) (Eq.trans (select_one _ _) (Eq.trans ?_ (if_pos h).symm))
    refine congrArg (fun z : EReal => z * Cert.Gqa.c8) (congrArg₂ (fun y z : EReal => y + z) (Finset.sum_congr rfl fun d _ => ?_) (Finset.sum_congr rfl fun d _ => ?_))
    · exact congrArg₂ (fun y z : EReal => y * z) (r_klo V (Cert.Gqa.Args.tok b j) k d) (r_qlo V (Cert.Gqa.Args.tok b i) (Cert.Gqa.Args.hd k g) d)
    · exact congrArg₂ (fun y z : EReal => y * z) (r_khi V (Cert.Gqa.Args.tok b j) k d) (r_qhi V (Cert.Gqa.Args.tok b i) (Cert.Gqa.Args.hd k g) d)
  · exact Eq.trans (congrArg (fun z => Scalar.select z _ _) (if_neg h)) (Eq.trans (select_zero _ _) (if_neg h).symm)

theorem r_v102 (k g : Fin 8) : res_main_v102 (F := Ideal) V (ix4 0 k g 0) = (args V).sk (Cert.Gqa.Args.hd k g) := by
  pointwise [res_main_v102]
  rfl

/-- The greatest of a row. -/
theorem red_at (X : FVec Ideal S4x8x8x512x512 .f32) (init : FVec Ideal S_ .f32) (b : Fin 4) (k g : Fin 8) (i : Fin 512) :
    Host.reduce FloatOps.maximumf X init reducesTo_S4x8x8x512x512_S4x8x8x512_d4 h_S_ (ix4 b k g i)
      = Finset.univ.fold max (init ix0) fun j : Fin 512 => (show EReal from X (ix5 b k g i j)) := by
  rw [Host.reduce_eq_fold, Shape.ReducesTo.fold_fiber_r5_a4]
  exact congrArg₂ (fun (a : EReal) (f : Fin 512 → EReal) => Finset.univ.fold max a f) (congrArg init (funext fun a => a.elim0)) (funext fun k => rfl)

theorem max_at (A B : FVec Ideal S4x8x8x512 .f32) (z : S4x8x8x512.Idx) : maximumf A B z = (show EReal from max (A z) (B z)) := rfl

theorem bc_at (Y : FVec Ideal S1x8x8x1 .f32) (b : Fin 4) (k g : Fin 8) (i : Fin 512) :
    broadcastInDim S4x8x8x512 ![0, 1, 2, 3] bcast_S1x8x8x1_S4x8x8x512_0_1_2_3 Y (ix4 b k g i) = Y (ix4 0 k g 0) := by
  pointwise []

theorem r_v105 (b : Fin 4) (k g : Fin 8) (i : Fin 512) :
    res_main_v105 (F := Ideal) V (ix4 b k g i) = max (Finset.univ.fold max ⊥ ((args V).score b k g i)) ((args V).sk (Cert.Gqa.Args.hd k g)) := by
  have e : res_main_v105 (F := Ideal) V = maximumf (Host.reduce FloatOps.maximumf (res_main_v100 V) (constant S_ .f32 0xFF800000#32) reducesTo_S4x8x8x512x512_S4x8x8x512_d4 h_S_)
      (broadcastInDim S4x8x8x512 ![0, 1, 2, 3] bcast_S1x8x8x1_S4x8x8x512_0_1_2_3 (res_main_v102 V)) := rfl
  rw [e]
  refine (max_at _ _ _).trans ?_
  rw [red_at, bc_at, r_v102 V k g]
  exact congrArg (fun y : EReal => max y _) (congrArg₂ (fun (a : EReal) (f : Fin 512 → EReal) => Finset.univ.fold max a f) Cert.KernelIdeal.Val.bot_bits (funext fun j => r_v100 V b k g i j))

theorem r_v109 (b : Fin 4) (k g : Fin 8) (i j : Fin 512) :
    res_main_v109 (F := Ideal) V (ix5 b k g i j)
      = Ideal.exp ((args V).score b k g i j - max (Finset.univ.fold max ⊥ ((args V).score b k g i)) ((args V).sk (Cert.Gqa.Args.hd k g))) := by
  pointwise [res_main_v109]
  exact congrArg₂ (fun y z : EReal => Ideal.exp (y - z)) (r_v100 V b k g i j) (r_v105 V b k g i)

end Cert.ReferenceIdeal.Val
-- ==== Proof.RefOut.lean ====
/- The reference's result, read at an index in the arguments. -/
module

public import proofs.«01_k».proof.Proof.Gen.ReferenceIdeal.Run
public import proofs.«01_k».proof.Proof.RefScore
public import Idealize.ShloMosaic.Lib.Tactic.CleanTypes
public import proofs.«01_k».proof.Proof.Bits
public import Idealize.ShloMosaic.Lib.Pipeline.ValueKit

@[expose] public section

set_option maxRecDepth 16384

noncomputable section

open Idealize.ShloMosaic Idealize.ShloMosaic.TcCoe Idealize.SL.Sem

namespace Cert.ReferenceIdeal.Val

open Cert.ReferenceIdeal Cert.ReferenceIdeal.Gen Cert.ReferenceIdeal.Value

variable (V : Valuation τ sig (Elt Ideal))

/-- The last operations, of the softmax's arrays and the arguments. -/
def last (a0 : FVec Ideal S2048x2880 .f32) (a5 : FVec Ideal S2880x8x64 .f32) (a6 : FVec Ideal S8x64 .f32) (a7 : FVec Ideal S64x64x2880 .f32) (a8 : FVec Ideal S2880 .f32)
    (r102 : FVec Ideal S1x8x8x1 .f32) (r105 : FVec Ideal S4x8x8x512 .f32) (r109 : FVec Ideal S4x8x8x512x512 .f32) : FVec Ideal S2048x2880 .f32 :=
  addf (Host.dotGeneral dot_S2048x64x64_S64x64x2880_S2048x2880_21_10_0_2_n_n none (shapeCast _ (Host.divf (transpose S4x512x8x8x64 [0, 4, 1, 3, 2] (Host.dotGeneral dot_S4x512x8x64_S4x8x8x512x512_S4x8x64x8x512_1_4_3_23_02_01 none (shapeCast _ (addf (Host.dotGeneral dot_S2048x2880_S2880x8x64_S2048x8x64_1_0_0_12_n_n none a0 a5) (broadcastInDim S2048x8x64 ![0, 1, 2] bcast_S1x8x64_S2048x8x64_0_1_2 (broadcastInDim S1x8x64 ![1, 2] bcast_S8x64_S1x8x64_1_2 a6))) shapeCasts_S2048x8x64_S4x512x8x64) r109) transposes_S4x8x64x8x512_S4x512x8x8x64_0_4_1_3_2) (broadcastInDim S4x512x8x8x64 ![0, 1, 2, 3, 4] bcast_S4x512x8x8x1_S4x512x8x8x64_0_1_2_3_4 (broadcastInDim S4x512x8x8x1 ![0, 1, 2, 3] bcast_S4x512x8x8_S4x512x8x8x1_0_1_2_3 (transpose S4x512x8x8 [0, 3, 1, 2] (addf (Host.exp (subf (broadcastInDim S4x8x8x512 ![0, 1, 2, 3] bcast_S1x8x8x1_S4x8x8x512_0_1_2_3 r102) r105)) (Host.reduceAdd r109 (constant S_ .f32 0x00000000#32) reducesTo_S4x8x8x512x512_S4x8x8x512_d4 h_S_)) transposes_S4x8x8x512_S4x512x8x8_0_3_1_2)))) shapeCasts_S4x512x8x8x64_S2048x64x64) a7) (broadcastInDim S2048x2880 ![0, 1] bcast_S1x2880_S2048x2880_0_1 (broadcastInDim S1x2880 ![1] bcast_S2880_S1x2880_1 a8))

theorem last_at (a0 : FVec Ideal S2048x2880 .f32) (a5 : FVec Ideal S2880x8x64 .f32) (a6 : FVec Ideal S8x64 .f32) (a7 : FVec Ideal S64x64x2880 .f32) (a8 : FVec Ideal S2880 .f32)
    (r102 : FVec Ideal S1x8x8x1 .f32) (r105 : FVec Ideal S4x8x8x512 .f32) (r109 : FVec Ideal S4x8x8x512x512 .f32) (i : Fin 2048) (d : Fin 2880) :
    last a0 a5 a6 a7 a8 r102 r105 r109 (ix2 i d)
      = (show EReal from (∑ h : Fin 64, ∑ a : Fin 64,
          Ideal.div
              (∑ j : Fin 512, ((∑ e : Fin 2880, a0 (ix2 ⟨i.val / 512 * 512 + j.val, by omega⟩ e) * a5 (ix3 e ⟨a.val / 8, by omega⟩ h)) + a6 (ix2 ⟨a.val / 8, by omega⟩ h))
                * r109 (ix5 ⟨i.val / 512, by omega⟩ ⟨a.val / 8, by omega⟩ ⟨a.val % 8, by omega⟩ ⟨i.val % 512, by omega⟩ j))
              (Ideal.exp (r102 (ix4 0 ⟨a.val / 8, by omega⟩ ⟨a.val % 8, by omega⟩ 0)
                  - r105 (ix4 ⟨i.val / 512, by omega⟩ ⟨a.val / 8, by omega⟩ ⟨a.val % 8, by omega⟩ ⟨i.val % 512, by omega⟩))
                + ∑ j : Fin 512, r109 (ix5 ⟨i.val / 512, by omega⟩ ⟨a.val / 8, by omega⟩ ⟨a.val % 8, by omega⟩ ⟨i.val % 512, by omega⟩ j))
            * a7 (ix3 a h d)) + a8 (ix1 d)) := by
  pointwise [last]

/-- The quotient is attention's output. -/
theorem quot_at (b : Fin 4) (k g : Fin 8) (i : Fin 512) (h : Fin 64) :
    Ideal.div (∑ j : Fin 512, (args V).v (Cert.Gqa.Args.tok b j) k h * (show EReal from res_main_v109 (F := Ideal) V (ix5 b k g i j)))
        (Ideal.exp ((show EReal from res_main_v102 (F := Ideal) V (ix4 0 k g 0)) - (show EReal from res_main_v105 (F := Ideal) V (ix4 b k g i)))
          + ∑ j : Fin 512, (show EReal from res_main_v109 (F := Ideal) V (ix5 b k g i j)))
      = (args V).att b k g i h := by
  have e1 : ∀ j, (show EReal from res_main_v109 (F := Ideal) V (ix5 b k g i j)) = _ := fun j => r_v109 V b k g i j
  have e2 : (show EReal from res_main_v102 (F := Ideal) V (ix4 0 k g 0)) = _ := r_v102 V k g
  have e3 : (show EReal from res_main_v105 (F := Ideal) V (ix4 b k g i)) = _ := r_v105 V b k g i
  unfold Cert.Gqa.Args.att Cert.Gqa.attn
  refine congrArg₂ Ideal.div (Finset.sum_congr rfl fun j _ => congrArg (fun y : EReal => _ * y) (e1 j)) ?_
  exact congrArg₂ (fun y z : EReal => y + z) (congrArg₂ (fun y z : EReal => Ideal.exp (y - z)) e2 e3) (Finset.sum_congr rfl fun j _ => e1 j)

/-- The result array. -/
def outF (z : S2048x2880.Idx) : EReal :=
  (args V).out ⟨(z 0).val / 512, by have : (z 0).val < 2048 := (z 0).isLt; omega⟩ ⟨(z 0).val % 512, by omega⟩ (z 1)

/-- The reference's result. -/
theorem result : last (V (Proc.devRef .tc main_arg0)) (V (Proc.devRef .tc main_arg5)) (V (Proc.devRef .tc main_arg6)) (V (Proc.devRef .tc main_arg7))
    (V (Proc.devRef .tc main_arg8)) (res_main_v102 V) (res_main_v105 V) (res_main_v109 V) = outF V := by
  funext z
  idx_vars z
  refine (last_at _ _ _ _ _ _ _ _ z0 z1).trans ?_
  rw [Finset.sum_comm]
  show _ = (∑ a : Fin 64, ∑ h : Fin 64, (args V).att ⟨z0.val / 512, by omega⟩ ⟨a.val / 8, by omega⟩ ⟨a.val % 8, by omega⟩ ⟨z0.val % 512, by omega⟩ h * (args V).wo a h z1) + (args V).bo z1
  refine congrArg (fun y : EReal => y + (args V).bo z1) (Finset.sum_congr rfl fun a _ => Finset.sum_congr rfl fun h _ => ?_)
  exact congrArg (fun y : EReal => y * (args V).wo a h z1) (quot_at V ⟨z0.val / 512, by omega⟩ ⟨a.val / 8, by omega⟩ ⟨a.val % 8, by omega⟩ ⟨z0.val % 512, by omega⟩ h)

end Cert.ReferenceIdeal.Val
-- ==== Proof.Equal.lean ====
/- The two programs compute one function: the equality of their results. -/
module

public import proofs.«01_k».proof.Defs
public import proofs.«01_k».proof.Proof.AttnArr
public import proofs.«01_k».proof.Proof.RefOut
public import Idealize.ShloMosaic.Lib.Claim

@[expose] public section

set_option maxRecDepth 16384

noncomputable section

open Idealize.ShloMosaic Idealize.ShloMosaic.TcCoe Idealize.SL.Sem Idealize.ShloMosaic.StableHlo

namespace Cert.Gqa

/-- The arguments, of their arrays. -/
def mk (a0 : FVec Ideal ⟨2, ![2048, 2880]⟩ .f32) (a1 : FVec Ideal ⟨3, ![2880, 64, 64]⟩ .f32) (a2 : FVec Ideal ⟨2, ![64, 64]⟩ .f32) (a3 : FVec Ideal ⟨3, ![2880, 8, 64]⟩ .f32) (a4 : FVec Ideal ⟨2, ![8, 64]⟩ .f32) (a5 : FVec Ideal ⟨3, ![2880, 8, 64]⟩ .f32) (a6 : FVec Ideal ⟨2, ![8, 64]⟩ .f32) (a7 : FVec Ideal ⟨3, ![64, 64, 2880]⟩ .f32) (a8 : FVec Ideal ⟨1, ![2880]⟩ .f32) (a9 : FVec Ideal ⟨1, ![64]⟩ .f32) (a10 : IVec ⟨1, ![2048]⟩ 32) : Args where
  x := fun i j => a0 (ix2 i j)
  wq := fun i j k => a1 (ix3 i j k)
  bq := fun i j => a2 (ix2 i j)
  wk := fun i j k => a3 (ix3 i j k)
  bk := fun i j => a4 (ix2 i j)
  wv := fun i j k => a5 (ix3 i j k)
  bv := fun i j => a6 (ix2 i j)
  wo := fun i j k => a7 (ix3 i j k)
  bo := fun i => a8 (ix1 i)
  sk := fun i => a9 (ix1 i)
  ps := fun i => a10 (ix1 i)

theorem mk_congr {a0 : FVec Ideal ⟨2, ![2048, 2880]⟩ .f32} {a1 : FVec Ideal ⟨3, ![2880, 64, 64]⟩ .f32} {a2 : FVec Ideal ⟨2, ![64, 64]⟩ .f32} {a3 : FVec Ideal ⟨3, ![2880, 8, 64]⟩ .f32} {a4 : FVec Ideal ⟨2, ![8, 64]⟩ .f32} {a5 : FVec Ideal ⟨3, ![2880, 8, 64]⟩ .f32} {a6 : FVec Ideal ⟨2, ![8, 64]⟩ .f32} {a7 : FVec Ideal ⟨3, ![64, 64, 2880]⟩ .f32} {a8 : FVec Ideal ⟨1, ![2880]⟩ .f32} {a9 : FVec Ideal ⟨1, ![64]⟩ .f32} {a10 : IVec ⟨1, ![2048]⟩ 32} {b0 : FVec Ideal ⟨2, ![2048, 2880]⟩ .f32} {b1 : FVec Ideal ⟨3, ![2880, 64, 64]⟩ .f32} {b2 : FVec Ideal ⟨2, ![64, 64]⟩ .f32} {b3 : FVec Ideal ⟨3, ![2880, 8, 64]⟩ .f32} {b4 : FVec Ideal ⟨2, ![8, 64]⟩ .f32} {b5 : FVec Ideal ⟨3, ![2880, 8, 64]⟩ .f32} {b6 : FVec Ideal ⟨2, ![8, 64]⟩ .f32} {b7 : FVec Ideal ⟨3, ![64, 64, 2880]⟩ .f32} {b8 : FVec Ideal ⟨1, ![2880]⟩ .f32} {b9 : FVec Ideal ⟨1, ![64]⟩ .f32} {b10 : IVec ⟨1, ![2048]⟩ 32}
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) : mk a0 a1 a2 a3 a4 a5 a6 a7 a8 a9 a10 = mk b0 b1 b2 b3 b4 b5 b6 b7 b8 b9 b10 := by
  rw [h0, h1, h2, h3, h4, h5, h6, h7, h8, h9, h10]

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- Equal argument arrays give equal arguments. -/
theorem args_eq (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
    ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
    ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
    ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
    ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
    ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
    ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
    ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
    ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Cert.ReferenceIdeal.Val.args (launchContents m' c) = Cert.KernelIdeal.Val.args m c := by
  obtain ⟨h0, h1, h2, h3, h4, h5, h6, h7, h8, h9, h10⟩ := h
  exact mk_congr h0 h1 h2 h3 h4 h5 h6 h7 h8 h9 h10

/-- The kernel's run: its result, and the arguments unchanged. -/
theorem kernel_run (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v128) = Cert.KernelIdeal.Val.outF m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)) :=
  (θ_run _ _ _).mono (fun r h c => ⟨(h.1 c).trans (Cert.KernelIdeal.Val.arr1 m ρ c), h.2.1 c⟩)
    (θ_run_and (Cert.KernelIdeal.Run.run_result m ρ) (Cert.KernelIdeal.Run.frame m ρ))

end Cert.Gqa
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.KernelRun
public import proofs.«01_k».proof.Proof.IdealRun
public import proofs.«01_k».proof.Proof.Equal
public import Idealize.ShloMosaic.Adequacy
public import Idealize.ShloMosaic.Init
public import Idealize.ShloMosaic.Lib.Claim

@[expose] public section

open Idealize.ShloMosaic Idealize.SL.Sem

theorem Cert.Proof.claim : Cert.Claim :=
  ⟨Cert.Kernel.Gen.facts, Cert.KernelIdeal.Gen.facts, Cert.ReferenceIdeal.Gen.facts, by
    refine ⟨?_, ?_, ?_, ?_, ?_⟩
    · exact fun m ρ _ => Cert.Kernel.Run.frame m ρ
    · exact fun m ρ _ => Cert.KernelIdeal.Run.frame m ρ
    · intro m ρ _
      exact (θ_run _ _ _).mono (fun r h => ⟨fun c => (h c).2, funext fun g => nomatch g.2⟩) (Cert.ReferenceIdeal.Value.run m ρ)
    · trivial
    · intro m g m' g' _ hagree
      refine ⟨fun c => Cert.KernelIdeal.Val.outF m c, Cert.Gqa.kernel_run m g, ?_⟩
      refine (θ_run _ _ _).mono (fun r h c => ⟨((h c).1.trans (Cert.ReferenceIdeal.Val.result (StableHlo.launchContents m' c))).trans ?_, (h c).2⟩) (Cert.ReferenceIdeal.Value.run m' g')
      exact congrArg (fun A : Cert.Gqa.Args => fun z : (⟨2, ![2048, 2880]⟩ : Shape).Idx =>
        A.out ⟨(z 0).val / 512, by have : (z 0).val < 2048 := (z 0).isLt; omega⟩ ⟨(z 0).val % 512, by omega⟩ (z 1)) (Cert.Gqa.args_eq m m' c (hagree c))⟩
